-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v42) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x640x12288 : Shape := ⟨3, ![2, 640, 12288]⟩
abbrev S12288 : Shape := ⟨1, ![12288]⟩
abbrev S6144x4096 : Shape := ⟨2, ![6144, 4096]⟩
abbrev S96x4096 : Shape := ⟨2, ![96, 4096]⟩
abbrev S1280x12288 : Shape := ⟨2, ![1280, 12288]⟩
abbrev S1x12288 : Shape := ⟨2, ![1, 12288]⟩
abbrev S1280x6144 : Shape := ⟨2, ![1280, 6144]⟩
abbrev S1280x96 : Shape := ⟨2, ![1280, 96]⟩
abbrev S128x12288 : Shape := ⟨2, ![128, 12288]⟩
abbrev S128x6144 : Shape := ⟨2, ![128, 6144]⟩
abbrev S128x96 : Shape := ⟨2, ![128, 96]⟩
abbrev S96x128 : Shape := ⟨2, ![96, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S64x128 : Shape := ⟨2, ![64, 128]⟩
abbrev S1280x4096 : Shape := ⟨2, ![1280, 4096]⟩
abbrev S6144x256 : Shape := ⟨2, ![6144, 256]⟩
abbrev S96x256 : Shape := ⟨2, ![96, 256]⟩
abbrev S1280x256 : Shape := ⟨2, ![1280, 256]⟩
abbrev S12288x256 : Shape := ⟨2, ![12288, 256]⟩
abbrev S64x256 : Shape := ⟨2, ![64, 256]⟩
abbrev S128x256 : Shape := ⟨2, ![128, 256]⟩
abbrev S1x256 : Shape := ⟨2, ![1, 256]⟩
abbrev S2x640x4096 : Shape := ⟨3, ![2, 640, 4096]⟩
abbrev S2x640x6144 : Shape := ⟨3, ![2, 640, 6144]⟩
abbrev S2x640x96 : Shape := ⟨3, ![2, 640, 96]⟩

abbrev nBuf : Space → Nat
  | .hbm => 17
  | .vmem => 23
  | .smem => 0
  | _ => 0

abbrev bufTy : (tb : Table) → Fin (tcTables nBuf tb) → BufTy
  | .hbm, ⟨0, _⟩ => ⟨S2x640x12288, .bf16⟩
  | .hbm, ⟨1, _⟩ => ⟨S12288, .f32⟩
  | .hbm, ⟨2, _⟩ => ⟨S6144x4096, .i8⟩
  | .hbm, ⟨3, _⟩ => ⟨S96x4096, .f32⟩
  | .hbm, ⟨4, _⟩ => ⟨S1280x12288, .bf16⟩
  | .hbm, ⟨5, _⟩ => ⟨S1x12288, .f32⟩
  | .hbm, ⟨6, _⟩ => ⟨S1280x12288, .bf16⟩
  | .hbm, ⟨7, _⟩ => ⟨S1280x12288, .bf16⟩
  | .hbm, ⟨8, _⟩ => ⟨S1280x6144, .i8⟩
  | .hbm, ⟨9, _⟩ => ⟨S1280x96, .f32⟩
  | .hbm, ⟨10, _⟩ => ⟨S1280x96, .i8⟩
  | .hbm, ⟨11, _⟩ => ⟨S1280x4096, .bf16⟩
  | .hbm, ⟨12, _⟩ => ⟨S2x640x4096, .bf16⟩
  | .hbm, ⟨13, _⟩ => ⟨S2x640x12288, .bf16⟩
  | .hbm, ⟨14, _⟩ => ⟨S2x640x6144, .i8⟩
  | .hbm, ⟨15, _⟩ => ⟨S2x640x96, .f32⟩
  | .hbm, ⟨16, _⟩ => ⟨S2x640x96, .i8⟩
  | .local _ .vmem, ⟨0, _⟩ => ⟨S128x12288, .bf16⟩
  | .local _ .vmem, ⟨1, _⟩ => ⟨S128x12288, .bf16⟩
  | .local _ .vmem, ⟨2, _⟩ => ⟨S1x12288, .f32⟩
  | .local _ .vmem, ⟨3, _⟩ => ⟨S128x12288, .bf16⟩
  | .local _ .vmem, ⟨4, _⟩ => ⟨S128x12288, .bf16⟩
  | .local _ .vmem, ⟨5, _⟩ => ⟨S128x12288, .bf16⟩
  | .local _ .vmem, ⟨6, _⟩ => ⟨S128x12288, .bf16⟩
  | .local _ .vmem, ⟨7, _⟩ => ⟨S128x6144, .i8⟩
  | .local _ .vmem, ⟨8, _⟩ => ⟨S128x6144, .i8⟩
  | .local _ .vmem, ⟨9, _⟩ => ⟨S128x96, .f32⟩
  | .local _ .vmem, ⟨10, _⟩ => ⟨S128x96, .f32⟩
  | .local _ .vmem, ⟨11, _⟩ => ⟨S128x96, .i8⟩
  | .local _ .vmem, ⟨12, _⟩ => ⟨S128x96, .i8⟩
  | .local _ .vmem, ⟨13, _⟩ => ⟨S96x128, .f32⟩
  | .local _ .vmem, ⟨14, _⟩ => ⟨S96x128, .f32⟩
  | .local _ .vmem, ⟨15, _⟩ => ⟨S1280x12288, .bf16⟩
  | .local _ .vmem, ⟨16, _⟩ => ⟨S6144x256, .i8⟩
  | .local _ .vmem, ⟨17, _⟩ => ⟨S6144x256, .i8⟩
  | .local _ .vmem, ⟨18, _⟩ => ⟨S96x256, .f32⟩
  | .local _ .vmem, ⟨19, _⟩ => ⟨S96x256, .f32⟩
  | .local _ .vmem, ⟨20, _⟩ => ⟨S1280x256, .bf16⟩
  | .local _ .vmem, ⟨21, _⟩ => ⟨S1280x256, .bf16⟩
  | .local _ .vmem, ⟨22, _⟩ => ⟨S12288x256, .bf16⟩
  | _, _ => ⟨S2x640x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32 : BitVec 32 := 0#32
  let c48_i32 : BitVec 32 := 48#32
  let v488 : BitVec 32 := Scalar.addi c0_i32 c48_i32
  let c1_i32 : BitVec 32 := 1#32
  ⟨c0_i32, v488, c1_i32⟩
def k0_mult1 (k0_t1 : Fin k0_t1_loop.trips) : BitVec 32 :=
  let c2_i32 : BitVec 32 := 2#32
  let c0_i32 : BitVec 32 := 0#32
  let c1_i32 : BitVec 32 := 1#32
  let arg10 : BitVec 32 := Scf.iv c0_i32 c1_i32 k0_t1
  let v497 : BitVec 32 := Scalar.muli c2_i32 arg10
  let c128_i32 : BitVec 32 := 128#32
  let v498 : BitVec 32 := Scalar.muli v497 c128_i32
  v498
def k0_off1 (k0_t1 : Fin k0_t1_loop.trips) : Fin 2 → Nat :=
  let c0_108 : Index := 0#32
  let c2_i32 : BitVec 32 := 2#32
  let c0_i32 : BitVec 32 := 0#32
  let c1_i32 : BitVec 32 := 1#32
  let arg10 : BitVec 32 := Scf.iv c0_i32 c1_i32 k0_t1
  let v497 : BitVec 32 := Scalar.muli c2_i32 arg10
  let c128_i32 : BitVec 32 := 128#32
  let v498 : BitVec 32 := Scalar.muli v497 c128_i32
  let v499 : BitVec 32 := v498
  let v500 : Index := Scalar.indexCast v499
  ![0, v500.toNat]
def k0_off2 (k0_t1 : Fin k0_t1_loop.trips) : Fin 2 → Nat :=
  let c0_109 : Index := 0#32
  let c2_i32 : BitVec 32 := 2#32
  let c0_i32 : BitVec 32 := 0#32
  let c1_i32 : BitVec 32 := 1#32
  let arg10 : BitVec 32 := Scf.iv c0_i32 c1_i32 k0_t1
  let v497 : BitVec 32 := Scalar.muli c2_i32 arg10
  let c128_i32 : BitVec 32 := 128#32
  let v498 : BitVec 32 := Scalar.muli v497 c128_i32
  let v499 : BitVec 32 := v498
  let v506 : Index := Scalar.indexCast v499
  ![0, v506.toNat]
def k0_off3 (k0_t1 : Fin k0_t1_loop.trips) : Fin 2 → Nat :=
  let c2_i32 : BitVec 32 := 2#32
  let c0_i32 : BitVec 32 := 0#32
  let c1_i32 : BitVec 32 := 1#32
  let arg10 : BitVec 32 := Scf.iv c0_i32 c1_i32 k0_t1
  let v497 : BitVec 32 := Scalar.muli c2_i32 arg10
  let v563 : Index := Scalar.indexCast v497
  let c0_123 : Index := 0#32
  ![v563.toNat, 0]
def k0_mult2 (k0_t1 : Fin k0_t1_loop.trips) : BitVec 32 :=
  let c2_i32_125 : BitVec 32 := 2#32
  let c0_i32 : BitVec 32 := 0#32
  let c1_i32 : BitVec 32 := 1#32
  let arg10 : BitVec 32 := Scf.iv c0_i32 c1_i32 k0_t1
  let v578 : BitVec 32 := Scalar.muli c2_i32_125 arg10
  let c1_i32_126 : BitVec 32 := 1#32
  let v579 : BitVec 32 := Scalar.addi v578 c1_i32_126
  let c128_i32_127 : BitVec 32 := 128#32
  let v580 : BitVec 32 := Scalar.muli v579 c128_i32_127
  v580
def k0_off4 (k0_t1 : Fin k0_t1_loop.trips) : Fin 2 → Nat :=
  let c0_128 : Index := 0#32
  let c2_i32_125 : BitVec 32 := 2#32
  let c0_i32 : BitVec 32 := 0#32
  let c1_i32 : BitVec 32 := 1#32
  let arg10 : BitVec 32 := Scf.iv c0_i32 c1_i32 k0_t1
  let v578 : BitVec 32 := Scalar.muli c2_i32_125 arg10
  let c1_i32_126 : BitVec 32 := 1#32
  let v579 : BitVec 32 := Scalar.addi v578 c1_i32_126
  let c128_i32_127 : BitVec 32 := 128#32
  let v580 : BitVec 32 := Scalar.muli v579 c128_i32_127
  let v581 : BitVec 32 := v580
  let v582 : Index := Scalar.indexCast v581
  ![0, v582.toNat]
def k0_off5 (k0_t1 : Fin k0_t1_loop.trips) : Fin 2 → Nat :=
  let c0_129 : Index := 0#32
  let c2_i32_125 : BitVec 32 := 2#32
  let c0_i32 : BitVec 32 := 0#32
  let c1_i32 : BitVec 32 := 1#32
  let arg10 : BitVec 32 := Scf.iv c0_i32 c1_i32 k0_t1
  let v578 : BitVec 32 := Scalar.muli c2_i32_125 arg10
  let c1_i32_126 : BitVec 32 := 1#32
  let v579 : BitVec 32 := Scalar.addi v578 c1_i32_126
  let c128_i32_127 : BitVec 32 := 128#32
  let v580 : BitVec 32 := Scalar.muli v579 c128_i32_127
  let v581 : BitVec 32 := v580
  let v588 : Index := Scalar.indexCast v581
  ![0, v588.toNat]
def k0_off6 (k0_t1 : Fin k0_t1_loop.trips) : Fin 2 → Nat :=
  let c2_i32_125 : BitVec 32 := 2#32
  let c0_i32 : BitVec 32 := 0#32
  let c1_i32 : BitVec 32 := 1#32
  let arg10 : BitVec 32 := Scf.iv c0_i32 c1_i32 k0_t1
  let v578 : BitVec 32 := Scalar.muli c2_i32_125 arg10
  let c1_i32_126 : BitVec 32 := 1#32
  let v579 : BitVec 32 := Scalar.addi v578 c1_i32_126
  let v645 : Index := Scalar.indexCast v579
  let c0_143 : Index := 0#32
  ![v645.toNat, 0]
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_148 : BitVec 32 := 128#32
  let v663 : BitVec 32 := Scalar.muli arg10 c128_i32_148
  v663
def k0_off7 (k0_t1 : Fin k0_t1_loop.trips) : Fin 2 → Nat :=
  let c0_149 : Index := 0#32
  let c0_i32 : BitVec 32 := 0#32
  let c1_i32 : BitVec 32 := 1#32
  let arg10 : BitVec 32 := Scf.iv c0_i32 c1_i32 k0_t1
  let c128_i32_148 : BitVec 32 := 128#32
  let v663 : BitVec 32 := Scalar.muli arg10 c128_i32_148
  let v664 : BitVec 32 := v663
  let v666 : Index := Scalar.indexCast v664
  ![0, v666.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x12288 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x12288 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x6144 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x96 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

@[reducible] def k1_t1_loop : Scf.Loop 32 :=
  let c0_i32 : BitVec 32 := 0#32
  let c96_i32 : BitVec 32 := 96#32
  let v0 : BitVec 32 := Scalar.addi c0_i32 c96_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c64_i32 : BitVec 32 := 64#32
  let v7 : BitVec 32 := Scalar.muli arg6 c64_i32
  v7
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c64_i32 : BitVec 32 := 64#32
  let v7 : BitVec 32 := Scalar.muli arg6 c64_i32
  let v8 : BitVec 32 := v7
  let v9 : Index := Scalar.indexCast v8
  let c0_6 : Index := 0#32
  ![v9.toNat, 0]
def k1_off2 (k1_t1 : Fin k1_t1_loop.trips) : Fin 2 → Nat :=
  let c0_i32 : BitVec 32 := 0#32
  let c1_i32 : BitVec 32 := 1#32
  let arg6 : BitVec 32 := Scf.iv c0_i32 c1_i32 k1_t1
  let v31 : Index := Scalar.indexCast arg6
  let c0_10 : Index := 0#32
  ![v31.toNat, 0]
def k1_mult2 (k1_t1 : Fin k1_t1_loop.trips) : BitVec 32 :=
  let c0_i32 : BitVec 32 := 0#32
  let c1_i32 : BitVec 32 := 1#32
  let arg6 : BitVec 32 := Scf.iv c0_i32 c1_i32 k1_t1
  let c128_i32 : BitVec 32 := 128#32
  let v36 : BitVec 32 := Scalar.muli arg6 c128_i32
  v36
def k1_off3 (k1_t1 : Fin k1_t1_loop.trips) : Fin 2 → Nat :=
  let c0_i32 : BitVec 32 := 0#32
  let c1_i32 : BitVec 32 := 1#32
  let arg6 : BitVec 32 := Scf.iv c0_i32 c1_i32 k1_t1
  let c128_i32 : BitVec 32 := 128#32
  let v36 : BitVec 32 := Scalar.muli arg6 c128_i32
  let v37 : BitVec 32 := v36
  let v38 : Index := Scalar.indexCast v37
  let c0_11 : Index := 0#32
  ![v38.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1280x12288 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S6144x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S96x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1280x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S2x640x12288 : Shape := ⟨3, ![2, 640, 12288]⟩
abbrev S12288 : Shape := ⟨1, ![12288]⟩
abbrev S6144x4096 : Shape := ⟨2, ![6144, 4096]⟩
abbrev S96x4096 : Shape := ⟨2, ![96, 4096]⟩
abbrev S_ : Shape := ⟨0, ![]⟩
abbrev S2x640 : Shape := ⟨2, ![2, 640]⟩
abbrev S2x640x1 : Shape := ⟨3, ![2, 640, 1]⟩
abbrev S1x1x12288 : Shape := ⟨3, ![1, 1, 12288]⟩
abbrev S2x640x96x128 : Shape := ⟨4, ![2, 640, 96, 128]⟩
abbrev S2x640x96 : Shape := ⟨3, ![2, 640, 96]⟩
abbrev S2x640x96x1 : Shape := ⟨4, ![2, 640, 96, 1]⟩
abbrev S2x640x6144x2 : Shape := ⟨4, ![2, 640, 6144, 2]⟩
abbrev S2x640x6144x1 : Shape := ⟨4, ![2, 640, 6144, 1]⟩
abbrev S2x640x6144 : Shape := ⟨3, ![2, 640, 6144]⟩
abbrev S6144x1x4096 : Shape := ⟨3, ![6144, 1, 4096]⟩
abbrev S6144x2x4096 : Shape := ⟨3, ![6144, 2, 4096]⟩
abbrev S96x128x4096 : Shape := ⟨3, ![96, 128, 4096]⟩
abbrev S96x1x4096 : Shape := ⟨3, ![96, 1, 4096]⟩
abbrev S12288x4096 : Shape := ⟨2, ![12288, 4096]⟩
abbrev S2x640x4096 : Shape := ⟨3, ![2, 640, 4096]⟩

abbrev nBuf : Space → Nat
  | .hbm => 119
  | .vmem => 0
  | .smem => 0
  | _ => 0

abbrev bufTy : (tb : Table) → Fin (tcTables nBuf tb) → BufTy
  | .hbm, ⟨0, _⟩ => ⟨S2x640x12288, .bf16⟩
  | .hbm, ⟨1, _⟩ => ⟨S12288, .f32⟩
  | .hbm, ⟨2, _⟩ => ⟨S6144x4096, .i8⟩
  | .hbm, ⟨3, _⟩ => ⟨S96x4096, .f32⟩
  | .hbm, ⟨4, _⟩ => ⟨S2x640x12288, .f32⟩
  | .hbm, ⟨5, _⟩ => ⟨S2x640x12288, .f32⟩
  | .hbm, ⟨6, _⟩ => ⟨S_, .f32⟩
  | .hbm, ⟨7, _⟩ => ⟨S2x640, .f32⟩
  | .hbm, ⟨8, _⟩ => ⟨S_, .f32⟩
  | .hbm, ⟨9, _⟩ => ⟨S2x640, .f32⟩
  | .hbm, ⟨10, _⟩ => ⟨S2x640, .f32⟩
  | .hbm, ⟨11, _⟩ => ⟨S_, .f32⟩
  | .hbm, ⟨12, _⟩ => ⟨S2x640, .f32⟩
  | .hbm, ⟨13, _⟩ => ⟨S2x640, .f32⟩
  | .hbm, ⟨14, _⟩ => ⟨S2x640, .f32⟩
  | .hbm, ⟨15, _⟩ => ⟨S2x640x1, .f32⟩
  | .hbm, ⟨16, _⟩ => ⟨S2x640x12288, .f32⟩
  | .hbm, ⟨17, _⟩ => ⟨S2x640x12288, .f32⟩
  | .hbm, ⟨18, _⟩ => ⟨S1x1x12288, .f32⟩
  | .hbm, ⟨19, _⟩ => ⟨S2x640x12288, .f32⟩
  | .hbm, ⟨20, _⟩ => ⟨S2x640x12288, .f32⟩
  | .hbm, ⟨21, _⟩ => ⟨S2x640x12288, .bf16⟩
  | .hbm, ⟨22, _⟩ => ⟨S2x640x12288, .f32⟩
  | .hbm, ⟨23, _⟩ => ⟨S2x640x96x128, .f32⟩
  | .hbm, ⟨24, _⟩ => ⟨S_, .f32⟩
  | .hbm, ⟨25, _⟩ => ⟨S2x640x96, .f32⟩
  | .hbm, ⟨26, _⟩ => ⟨S_, .f32⟩
  | .hbm, ⟨27, _⟩ => ⟨S2x640x96, .f32⟩
  | .hbm, ⟨28, _⟩ => ⟨S2x640x96, .f32⟩
  | .hbm, ⟨29, _⟩ => ⟨S_, .f32⟩
  | .hbm, ⟨30, _⟩ => ⟨S2x640x96, .f32⟩
  | .hbm, ⟨31, _⟩ => ⟨S_, .f32⟩
  | .hbm, ⟨32, _⟩ => ⟨S2x640x96, .f32⟩
  | .hbm, ⟨33, _⟩ => ⟨S2x640x96, .f32⟩
  | .hbm, ⟨34, _⟩ => ⟨S2x640x96, .i1⟩
  | .hbm, ⟨35, _⟩ => ⟨S2x640x96, .f32⟩
  | .hbm, ⟨36, _⟩ => ⟨S_, .f32⟩
  | .hbm, ⟨37, _⟩ => ⟨S2x640x96, .f32⟩
  | .hbm, ⟨38, _⟩ => ⟨S2x640x96, .f32⟩
  | .hbm, ⟨39, _⟩ => ⟨S_, .f32⟩
  | .hbm, ⟨40, _⟩ => ⟨S2x640x96, .f32⟩
  | .hbm, ⟨41, _⟩ => ⟨S2x640x96, .f32⟩
  | .hbm, ⟨42, _⟩ => ⟨S2x640x96, .f32⟩
  | .hbm, ⟨43, _⟩ => ⟨S2x640x96, .f32⟩
  | .hbm, ⟨44, _⟩ => ⟨S2x640x96, .f32⟩
  | .hbm, ⟨45, _⟩ => ⟨S2x640x96x1, .f32⟩
  | .hbm, ⟨46, _⟩ => ⟨S2x640x96x128, .f32⟩
  | .hbm, ⟨47, _⟩ => ⟨S2x640x96x128, .f32⟩
  | .hbm, ⟨48, _⟩ => ⟨S2x640x96x128, .f32⟩
  | .hbm, ⟨49, _⟩ => ⟨S2x640x96x1, .f32⟩
  | .hbm, ⟨50, _⟩ => ⟨S2x640x96x128, .f32⟩
  | .hbm, ⟨51, _⟩ => ⟨S2x640x96x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2x640x96x128, .f32⟩
  | .hbm, ⟨56, _⟩ => ⟨S2x640x96x128, .f32⟩
  | .hbm, ⟨57, _⟩ => ⟨S_, .f32⟩
  | .hbm, ⟨58, _⟩ => ⟨S2x640x96x128, .f32⟩
  | .hbm, ⟨59, _⟩ => ⟨S2x640x96x128, .f32⟩
  | .hbm, ⟨60, _⟩ => ⟨S2x640x96x128, .i32⟩
  | .hbm, ⟨61, _⟩ => ⟨S2x640x96x128, .i8⟩
  | .hbm, ⟨62, _⟩ => ⟨S2x640x96, .i32⟩
  | .hbm, ⟨63, _⟩ => ⟨S2x640x96, .i8⟩
  | .hbm, ⟨64, _⟩ => ⟨S2x640x96x128, .i32⟩
  | .hbm, ⟨65, _⟩ => ⟨S2x640x6144x2, .i32⟩
  | .hbm, ⟨66, _⟩ => ⟨S2x640x6144x1, .i32⟩
  | .hbm, ⟨67, _⟩ => ⟨S2x640x6144, .i32⟩
  | .hbm, ⟨68, _⟩ => ⟨S2x640x6144x1, .i32⟩
  | .hbm, ⟨69, _⟩ => ⟨S2x640x6144, .i32⟩
  | .hbm, ⟨70, _⟩ => ⟨S_, .i32⟩
  | .hbm, ⟨71, _⟩ => ⟨S2x640x6144, .i32⟩
  | .hbm, ⟨72, _⟩ => ⟨S2x640x6144, .i32⟩
  | .hbm, ⟨73, _⟩ => ⟨S2x640x6144, .i32⟩
  | .hbm, ⟨74, _⟩ => ⟨S2x640x6144, .i8⟩
  | .hbm, ⟨75, _⟩ => ⟨S2x640x96x128, .i32⟩
  | .hbm, ⟨76, _⟩ => ⟨S2x640x96, .i32⟩
  | .hbm, ⟨77, _⟩ => ⟨S2x640x96x1, .i32⟩
  | .hbm, ⟨78, _⟩ => ⟨S2x640x96x128, .i32⟩
  | .hbm, ⟨79, _⟩ => ⟨S2x640x96x128, .i32⟩
  | .hbm, ⟨80, _⟩ => ⟨S2x640x96x128, .bf16⟩
  | .hbm, ⟨81, _⟩ => ⟨S2x640x96, .bf16⟩
  | .hbm, ⟨82, _⟩ => ⟨S2x640x96x1, .bf16⟩
  | .hbm, ⟨83, _⟩ => ⟨S2x640x96x128, .bf16⟩
  | .hbm, ⟨84, _⟩ => ⟨S2x640x96x128, .bf16⟩
  | .hbm, ⟨85, _⟩ => ⟨S2x640x12288, .bf16⟩
  | .hbm, ⟨86, _⟩ => ⟨S6144x4096, .i32⟩
  | .hbm, ⟨87, _⟩ => ⟨S_, .i32⟩
  | .hbm, ⟨88, _⟩ => ⟨S6144x4096, .i32⟩
  | .hbm, ⟨89, _⟩ => ⟨S6144x4096, .i32⟩
  | .hbm, ⟨90, _⟩ => ⟨S_, .i32⟩
  | .hbm, ⟨91, _⟩ => ⟨S6144x4096, .i32⟩
  | .hbm, ⟨92, _⟩ => ⟨S6144x4096, .i1⟩
  | .hbm, ⟨93, _⟩ => ⟨S_, .i32⟩
  | .hbm, ⟨94, _⟩ => ⟨S6144x4096, .i32⟩
  | .hbm, ⟨95, _⟩ => ⟨S6144x4096, .i32⟩
  | .hbm, ⟨96, _⟩ => ⟨S6144x4096, .i32⟩
  | .hbm, ⟨97, _⟩ => ⟨S_, .i32⟩
  | .hbm, ⟨98, _⟩ => ⟨S6144x4096, .i32⟩
  | .hbm, ⟨99, _⟩ => ⟨S6144x4096, .i32⟩
  | .hbm, ⟨100, _⟩ => ⟨S_, .i32⟩
  | .hbm, ⟨101, _⟩ => ⟨S6144x4096, .i32⟩
  | .hbm, ⟨102, _⟩ => ⟨S6144x4096, .i1⟩
  | .hbm, ⟨103, _⟩ => ⟨S_, .i32⟩
  | .hbm, ⟨104, _⟩ => ⟨S6144x4096, .i32⟩
  | .hbm, ⟨105, _⟩ => ⟨S6144x4096, .i32⟩
  | .hbm, ⟨106, _⟩ => ⟨S6144x4096, .i32⟩
  | .hbm, ⟨107, _⟩ => ⟨S6144x1x4096, .i32⟩
  | .hbm, ⟨108, _⟩ => ⟨S6144x1x4096, .i32⟩
  | .hbm, ⟨109, _⟩ => ⟨S6144x2x4096, .i32⟩
  | .hbm, ⟨110, _⟩ => ⟨S6144x2x4096, .bf16⟩
  | .hbm, ⟨111, _⟩ => ⟨S96x128x4096, .bf16⟩
  | .hbm, ⟨112, _⟩ => ⟨S96x4096, .bf16⟩
  | .hbm, ⟨113, _⟩ => ⟨S96x1x4096, .bf16⟩
  | .hbm, ⟨114, _⟩ => ⟨S96x128x4096, .bf16⟩
  | .hbm, ⟨115, _⟩ => ⟨S96x128x4096, .bf16⟩
  | .hbm, ⟨116, _⟩ => ⟨S12288x4096, .bf16⟩
  | .hbm, ⟨117, _⟩ => ⟨S2x640x4096, .f32⟩
  | .hbm, ⟨118, _⟩ => ⟨S2x640x4096, .bf16⟩
  | _, _ => ⟨S2x640x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_cst_9 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_10 : Ref sig .tc := ⟨.hbm, 87, rfl⟩
abbrev main_v65 : Ref sig .tc := ⟨.hbm, 88, rfl⟩
abbrev main_v66 : Ref sig .tc := ⟨.hbm, 89, rfl⟩
abbrev main_c_11 : Ref sig .tc := ⟨.hbm, 90, rfl⟩
abbrev main_v67 : Ref sig .tc := ⟨.hbm, 91, rfl⟩
abbrev main_v68 : Ref sig .tc := ⟨.hbm, 92, rfl⟩
abbrev main_c_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_c_14 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]
-- ==== Proof.Base.lean ====
module

public import proofs.«01_k».proof.Proof.Gen.KernelIdeal.Frame
public import Idealize.ShloMosaic.PureOps.Ideal
public import Idealize.ShloMosaic.Lib.Pointwise
public import Idealize.ShloMosaic.Lib.BitcastPair

@[expose] public section

set_option maxRecDepth 16384

/-! Small facts that both kernels use: where a unit-stride rectangle puts an index, which halves of a word a
    sixteen-bit reading of a thirty-two-bit tile takes, and what it means that a list of stores agrees with one
    function. -/

namespace Cert.KernelIdeal.Val

open Idealize.ShloMosaic

/-- A unit-stride rectangle of a rank-2 shape puts the index `(a, b)` at its offsets plus `(a, b)`. -/
theorem unit_emb2 {M N m n : Nat} {off : Fin 2 → Nat} {inb} (a : Fin m) (b : Fin n) (p : Fin M) (q : Fin N)
    (hp : p.val = off 0 + a.val) (hq : q.val = off 1 + b.val) :
    (Rect.unit (s := ⟨2, ![M, N]⟩) off ![m, n] inb).emb (ix2 a b) = ix2 p q := by
  funext c
  match c with
  | ⟨0, _⟩ => exact Fin.ext (show off 0 + 1 * a.val = p.val by omega)
  | ⟨1, _⟩ => exact Fin.ext (show off 1 + 1 * b.val = q.val by omega)

/-- The same of the rectangle a load reads. -/
theorem unit_idx2 {M N m n : Nat} {off : Fin 2 → Nat} {inb} (a : Fin m) (b : Fin n) (p : Fin M) (q : Fin N)
    (hp : p.val = off 0 + a.val) (hq : q.val = off 1 + b.val) :
    (Rect.unit (s := ⟨2, ![M, N]⟩) off ![m, n] inb).toLoadRect.idx (ix2 a b) = ix2 p q :=
  unit_emb2 (inb := inb) a b p q hp hq

/-- Thirty-two-bit words read at sixteen bits: row `a` is the low or the high half of row `a / 2`. -/
theorem bitcast_32_16_ix2 {R r n : Nat} (x : (⟨2, ![R, n]⟩ : Shape).Idx → BitVec 32)
    (h : (⟨2, ![R, n]⟩ : Shape).Bitcasts 32 ⟨2, ![r, n]⟩ 16) (a : Fin r) (l : Fin n) (p : Fin R) (hp : p.val = a.val / 2) :
    bitcast ⟨2, ![r, n]⟩ 16 x h (ix2 a l) = (x (ix2 p l)).extractLsb' (16 * (a.val % 2)) 16 := by
  rw [bitcast_32_16]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Sixteen-bit rows read at thirty-two bits: row `a` is row `2a + 1` over row `2a`. -/
theorem bitcast_16_32_ix2 {R r n : Nat} (x : (⟨2, ![R, n]⟩ : Shape).Idx → BitVec 16)
    (h : (⟨2, ![R, n]⟩ : Shape).Bitcasts 16 ⟨2, ![r, n]⟩ 32) (a : Fin r) (l : Fin n) (p q : Fin R)
    (hp : p.val = 2 * a.val + 1) (hq : q.val = 2 * a.val) :
    bitcast ⟨2, ![r, n]⟩ 32 x h (ix2 a l) = x (ix2 p l) ++ x (ix2 q l) := by
  rw [bitcast_16_32]
  congr 2
  · funext c
    match c with
    | ⟨0, _⟩ => exact Fin.ext ((h.srcIdx_row _ _ _ ⟨0, Nat.zero_lt_two⟩ rfl).trans hp.symm)
    | ⟨1, _⟩ => exact Fin.ext (h.srcIdx_other _ _ _ ⟨1, Nat.one_lt_two⟩ (by show ¬ 1 + 2 = 2; omega))
  · funext c
    match c with
    | ⟨0, _⟩ => exact Fin.ext ((h.srcIdx_row _ _ _ ⟨0, Nat.zero_lt_two⟩ rfl).trans hq.symm)
    | ⟨1, _⟩ => exact Fin.ext (h.srcIdx_other _ _ _ ⟨1, Nat.one_lt_two⟩ (by show ¬ 1 + 2 = 2; omega))

/-- Every store of the list writes, at its own index, what `G` says at the place it writes. -/
def Agrees {Val : EltTy → Type} {s : Shape} {e : EltTy} (G : s.Idx → Val e) (L : List (View.Piece Val s e)) : Prop :=
  ∀ p ∈ L, ∀ x : p.1.shape.Idx, p.2 x = G (p.1.emb x)

theorem Agrees.nil {Val : EltTy → Type} {s : Shape} {e : EltTy} (G : s.Idx → Val e) :
    Agrees G ([] : List (View.Piece Val s e)) := by
  intro p hp; exact absurd hp List.not_mem_nil

theorem Agrees.cons {Val : EltTy → Type} {s : Shape} {e : EltTy} {G : s.Idx → Val e} {L : List (View.Piece Val s e)}
    {p : View.Piece Val s e} (h : ∀ x : p.1.shape.Idx, p.2 x = G (p.1.emb x)) (hL : Agrees G L) : Agrees G (p :: L) := by
  intro q hq
  rcases List.mem_cons.mp hq with rfl | hq
  · exact h
  · exact hL q hq

theorem Agrees.cons_mk {Val : EltTy → Type} {s : Shape} {e : EltTy} {G : s.Idx → Val e} {L : List (View.Piece Val s e)}
    {R : Rect s} {v : R.shape.Idx → Val e} (h : ∀ x : R.shape.Idx, v x = G (R.emb x)) (hL : Agrees G L) :
    Agrees G ((⟨R, v⟩ : View.Piece Val s e) :: L) := Agrees.cons h hL

theorem Agrees.append {Val : EltTy → Type} {s : Shape} {e : EltTy} {G : s.Idx → Val e} {L L' : List (View.Piece Val s e)}
    (h : Agrees G L) (h' : Agrees G L') : Agrees G (L ++ L') := by
  intro q hq
  rcases List.mem_append.mp hq with hq | hq
  · exact h q hq
  · exact h' q hq

/-- The place `y` is written by some store of the list. -/
def Covered {Val : EltTy → Type} {s : Shape} {e : EltTy} (L : List (View.Piece Val s e)) (y : s.Idx) : Prop :=
  ∃ p ∈ L, y ∈ p.1.set

theorem Covered.head {Val : EltTy → Type} {s : Shape} {e : EltTy} {L : List (View.Piece Val s e)} {p : View.Piece Val s e}
    {y : s.Idx} (h : y ∈ p.1.set) : Covered (p :: L) y := ⟨p, List.mem_cons_self, h⟩

theorem Covered.tail {Val : EltTy → Type} {s : Shape} {e : EltTy} {L : List (View.Piece Val s e)} {p : View.Piece Val s e}
    {y : s.Idx} (h : Covered L y) : Covered (p :: L) y :=
  let ⟨q, hq, hy⟩ := h; ⟨q, List.mem_cons_of_mem _ hq, hy⟩

/-- The bounds that put a place of a rank-2 shape in a unit-stride rectangle. -/
theorem bounds2 {M N m n : Nat} {off : Fin 2 → Nat} (y : (⟨2, ![M, N]⟩ : Shape).Idx) (o0 o1 : Nat) (ho : off = ![o0, o1])
    (h0 : o0 ≤ (y 0).val ∧ (y 0).val < o0 + m) (h1 : o1 ≤ (y 1).val ∧ (y 1).val < o1 + n) :
    ∀ a : Fin 2, off a ≤ (y a).val ∧ (y a).val < off a + (![m, n] : Fin 2 → Nat) a := by
  subst ho
  intro a
  match a with
  | ⟨0, _⟩ => exact h0
  | ⟨1, _⟩ => exact h1

/-- A covered place of a buffer written by stores that agree with `G` holds `G` there. -/
theorem Agrees.read {sig : RefSig} {κ : Kind} {sp : Space} {Val : EltTy → Type} {s : Shape} {e : EltTy} {G : s.Idx → Val e}
    {L : List (View.Piece Val s e)} (h : Agrees G L) {y : s.Idx} (hc : Covered L y) (v : View sig κ sp s e)
    (f : v.ty.Contents Val) : v.read Val (v.writes Val f L) y = G y :=
  View.read_writes_apply_of_pieces v f G L h y hc

theorem Covered.left {Val : EltTy → Type} {s : Shape} {e : EltTy} {L : List (View.Piece Val s e)} {y : s.Idx}
    (h : Covered L y) (L' : List (View.Piece Val s e)) : Covered (L ++ L') y :=
  let ⟨p, hp, hy⟩ := h; ⟨p, List.mem_append_left _ hp, hy⟩

theorem Covered.right {Val : EltTy → Type} {s : Shape} {e : EltTy} {L : List (View.Piece Val s e)} {y : s.Idx}
    (L' : List (View.Piece Val s e)) (h : Covered L y) : Covered (L' ++ L) y :=
  let ⟨p, hp, hy⟩ := h; ⟨p, List.mem_append_right _ hp, hy⟩

end Cert.KernelIdeal.Val
-- ==== Proof.Scal.lean ====
module

public import Idealize.ShloMosaic.PureOps.Ideal
public import Idealize.ShloMosaic.Lib.Pointwise
public import Idealize.ShloMosaic.Lib.IdealHost

@[expose] public section

noncomputable section

/-! The quantiser of one group of 128 numbers over the extended reals, as the problem states it, and the facts that let
    the kernel's own arithmetic (a reciprocal scale, a clip of the difference, codes held at 128 + code) meet it. -/

namespace Cert.Quant

open Idealize.ShloMosaic

/-- Rounding to the nearest integer, ties to even, the infinities fixed. -/
abbrev rnd (x : EReal) : EReal := Ideal.liftRound Ideal.roundHalfEven x

theorem ofBits_pinf_bf16 : Ideal.ofBits .bf16 0x7F80#16 = ⊤ := by simp [Ideal.ofBits, Ideal.ieee]
theorem ofBits_ninf_bf16 : Ideal.ofBits .bf16 0xFF80#16 = ⊥ := by simp [Ideal.ofBits, Ideal.ieee]
theorem ofBits_pinf_f32 : Ideal.ofBits .f32 0x7F800000#32 = ⊤ := by simp [Ideal.ofBits, Ideal.ieee]
theorem ofBits_ninf_f32 : Ideal.ofBits .f32 0xFF800000#32 = ⊥ := by simp [Ideal.ofBits, Ideal.ieee]
theorem ofBits_0_f32 : Ideal.ofBits .f32 0x00000000#32 = 0 := by simp [Ideal.ofBits, Ideal.ieee]
theorem ofBits_15_f32 : Ideal.ofBits .f32 0x41700000#32 = ((15 : ℝ) : EReal) := by
  simp [Ideal.ofBits, Ideal.ieee, -EReal.coe_mul] <;> norm_num
theorem ofBits_15_bf16 : Ideal.ofBits .bf16 16752#16 = ((15 : ℝ) : EReal) := by
  simp [Ideal.ofBits, Ideal.ieee, -EReal.coe_mul] <;> norm_num
theorem ofBits_128_bf16 : Ideal.ofBits .bf16 17152#16 = ((128 : ℝ) : EReal) := by
  simp [Ideal.ofBits, Ideal.ieee, -EReal.coe_mul] <;> norm_num

/-- The greatest number of the group, at least zero. -/
def gHi (v : Fin 128 → EReal) : EReal := max (Finset.univ.fold max ⊥ v) 0
/-- The least number of the group, at most zero. -/
def gLo (v : Fin 128 → EReal) : EReal := min (Finset.univ.fold min ⊤ v) 0
/-- The step between two codes: the range over 15, or one where the range is empty. -/
def scOf (lo hi : EReal) : EReal := if hi = lo then 1 else Ideal.div (hi - lo) ((15 : ℝ) : EReal)
/-- The zero point before its conversion to an integer. -/
def zpOf (lo hi : EReal) : EReal := rnd (Ideal.div (-lo) (scOf lo hi))
def gSc (v : Fin 128 → EReal) : EReal := scOf (gLo v) (gHi v)
def gZp (v : Fin 128 → EReal) : EReal := zpOf (gLo v) (gHi v)
/-- The code of `x` before its conversion to an integer. -/
def gQ (v : Fin 128 → EReal) (x : EReal) : EReal :=
  min ((15 : ℝ) : EReal) (max 0 (rnd (Ideal.div x (gSc v)) + gZp v))
/-- The code of `x`, a byte. -/
def gCode (v : Fin 128 → EReal) (x : EReal) : BitVec 8 := (Ideal.fptosi 32 (gQ v x)).setWidth 8
/-- The zero point, a byte. -/
def gZero (v : Fin 128 → EReal) : BitVec 8 := (Ideal.fptosi 32 (gZp v)).setWidth 8
/-- The dequantised number: (code − zero point) times the step. -/
def gA (v : Fin 128 → EReal) (x : EReal) : EReal :=
  ((((IntOp.subi ((gCode v x).setWidth 32) ((gZero v).setWidth 32)).toInt : ℝ)) : EReal) * gSc v
/-- Two codes in one byte, the first in the low half. -/
def pack (c d : BitVec 8) : BitVec 8 :=
  (IntOp.ori (c.setWidth 32) (IntOp.shli .host (d.setWidth 32) 4#32)).setWidth 8

theorem gLo_le (v : Fin 128 → EReal) : gLo v ≤ 0 := min_le_right _ _
theorem le_gHi (v : Fin 128 → EReal) : 0 ≤ gHi v := le_max_right _ _

/-- A real between 0 and 15 rounds to an integer between 0 and 15. -/
theorem rhe_bounds {r : ℝ} (h0 : 0 ≤ r) (h15 : r ≤ 15) : 0 ≤ Ideal.roundHalfEven r ∧ Ideal.roundHalfEven r ≤ 15 := by
  have hf0 : 0 ≤ ⌊r⌋ := Int.floor_nonneg.mpr h0
  have hf15 : ⌊r⌋ ≤ 15 := by
    have : (⌊r⌋ : ℝ) ≤ 15 := (Int.floor_le r).trans h15
    exact_mod_cast this
  have key : ⌊r⌋ = 15 → r - ⌊r⌋ < 1 / 2 := by
    intro h; rw [h]; push_cast; linarith
  unfold Ideal.roundHalfEven
  dsimp only
  by_cases h1 : r - ⌊r⌋ < 1 / 2
  · rw [if_pos h1]; exact ⟨hf0, hf15⟩
  · rw [if_neg h1]
    have hlt : ⌊r⌋ ≤ 14 := by
      by_contra hc
      exact h1 (key (by omega))
    split
    · omega
    · split <;> omega

theorem rnd_zero : rnd 0 = 0 := by
  have : Ideal.roundHalfEven 0 = 0 := by simp [Ideal.roundHalfEven]
  show ((Ideal.roundHalfEven 0 : ℝ) : EReal) = 0
  rw [this]; simp

theorem rnd_coe (r : ℝ) : rnd (r : EReal) = ((Ideal.roundHalfEven r : ℝ) : EReal) := rfl

/-- The step is positive. -/
theorem scOf_pos {lo hi : EReal} (hl : lo ≤ 0) (hh : 0 ≤ hi) : 0 < scOf lo hi := by
  unfold scOf
  split
  · exact one_pos
  · rename_i hne
    have hlt : lo < hi := lt_of_le_of_ne (hl.trans hh) (fun h => hne h.symm)
    rw [Ideal.div_coe (by norm_num)]
    refine EReal.mul_pos ?_ (by rw [EReal.coe_pos]; norm_num)
    exact EReal.sub_pos.mpr hlt

theorem scOf_ne {lo hi : EReal} (hl : lo ≤ 0) (hh : 0 ≤ hi) : scOf lo hi ≠ 0 := (scOf_pos hl hh).ne'

/-- The zero point is an integer between 0 and 15. -/
theorem zpOf_int {lo hi : EReal} (hl : lo ≤ 0) (hh : 0 ≤ hi) : ∃ z : ℤ, 0 ≤ z ∧ z ≤ 15 ∧ zpOf lo hi = ((z : ℝ) : EReal) := by
  have hzero : zpOf lo hi = 0 → ∃ z : ℤ, 0 ≤ z ∧ z ≤ 15 ∧ zpOf lo hi = ((z : ℝ) : EReal) := fun h =>
    ⟨0, by norm_num, by norm_num, by rw [h]; simp⟩
  have htop : scOf lo hi = ⊤ → zpOf lo hi = 0 := by
    intro h
    unfold zpOf
    rw [h]
    unfold Ideal.div
    rw [if_neg EReal.top_ne_zero, EReal.inv_top, mul_zero, rnd_zero]
  have hdt : Ideal.div ⊤ ((15 : ℝ) : EReal) = ⊤ := by
    rw [Ideal.div_coe (by norm_num), EReal.top_mul_coe_of_pos (by norm_num)]
  induction lo with
  | top => exact absurd hl (by simp)
  | bot =>
    refine hzero (htop ?_)
    unfold scOf
    rw [if_neg (by rintro rfl; exact absurd hh (by simp))]
    rw [show hi - ⊥ = ⊤ from EReal.sub_bot (by rintro rfl; exact absurd hh (by simp)), hdt]
  | coe l =>
    induction hi with
    | bot => exact absurd hh (by simp)
    | top =>
      refine hzero (htop ?_)
      unfold scOf
      rw [if_neg (EReal.coe_ne_top l).symm, EReal.top_sub_coe, hdt]
    | coe h =>
      have hl' : l ≤ 0 := by exact_mod_cast hl
      have hh' : 0 ≤ h := by exact_mod_cast hh
      by_cases he : h = l
      · refine hzero ?_
        have : l = 0 := le_antisymm hl' (he ▸ hh')
        subst this
        unfold zpOf
        rw [EReal.coe_zero, neg_zero]
        unfold Ideal.div
        rw [if_neg (scOf_ne (le_refl _) (by rw [he, EReal.coe_zero])), zero_mul, rnd_zero]
      · have hd : 0 < h - l := by
          rcases lt_or_eq_of_le (hl'.trans hh') with h1 | h1
          · linarith
          · exact absurd h1.symm he
        have hs : scOf (l : EReal) (h : EReal) = (((h - l) / 15 : ℝ) : EReal) := by
          unfold scOf
          rw [if_neg (by exact_mod_cast he), Ideal.div_coe (by norm_num), ← EReal.coe_sub, ← EReal.coe_mul]
          congr 1
          ring
        have hz : zpOf (l : EReal) (h : EReal) = ((Ideal.roundHalfEven (-l * (1 / ((h - l) / 15))) : ℝ) : EReal) := by
          unfold zpOf
          rw [hs, Ideal.div_coe (by positivity), ← EReal.coe_neg, ← EReal.coe_mul, rnd_coe]
        have e : -l * (1 / ((h - l) / 15)) = 15 * (-l / (h - l)) := by field_simp
        have h0 : 0 ≤ -l / (h - l) := div_nonneg (by linarith) hd.le
        have h1 : -l / (h - l) ≤ 1 := (div_le_one hd).mpr (by linarith)
        obtain ⟨b0, b1⟩ := rhe_bounds (r := -l * (1 / ((h - l) / 15))) (by rw [e]; linarith) (by rw [e]; linarith)
        exact ⟨_, b0, b1, hz⟩

/-- A rounded number is an infinity or an integer. -/
theorem rnd_cases (x : EReal) : rnd x = ⊥ ∨ rnd x = ⊤ ∨ ∃ n : ℤ, rnd x = ((n : ℝ) : EReal) := by
  induction x with
  | bot => exact .inl rfl
  | top => exact .inr (.inl rfl)
  | coe r => exact .inr (.inr ⟨_, rfl⟩)

theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

/-- The clip of `q + z` to `[0, 15]` is an integer `n`, and the clip of `q` to `[−z, 15 − z]` is `n − z`. -/
theorem clip_shift {q : EReal} (hq : q = ⊥ ∨ q = ⊤ ∨ ∃ n : ℤ, q = ((n : ℝ) : EReal)) {z : ℤ} (h0 : 0 ≤ z) (h1 : z ≤ 15) :
    ∃ n : ℤ, 0 ≤ n ∧ n ≤ 15
      ∧ min ((15 : ℝ) : EReal) (max 0 (q + ((z : ℝ) : EReal))) = ((n : ℝ) : EReal)
      ∧ min (((15 : ℝ) : EReal) - ((z : ℝ) : EReal)) (max (0 - ((z : ℝ) : EReal)) q) = (((n - z : ℤ) : ℝ) : EReal) := by
  rcases hq with rfl | rfl | ⟨m, rfl⟩
  · refine ⟨0, by norm_num, by norm_num, ?_, ?_⟩
    · rw [EReal.bot_add, max_eq_left bot_le, min_eq_right (by exact_mod_cast (by norm_num : (0 : ℝ) ≤ 15))]; simp
    · rw [max_eq_left bot_le, min_eq_right]
      · rw [zero_sub, zero_sub]; push_cast; rfl
      · rw [zero_sub, ← EReal.coe_neg, ← EReal.coe_sub]; exact_mod_cast (by linarith : -(z : ℝ) ≤ 15 - z)
  · refine ⟨15, by norm_num, by norm_num, ?_, ?_⟩
    · rw [EReal.top_add_coe, max_eq_right le_top, min_eq_left le_top]; push_cast; rfl
    · rw [max_eq_right le_top, min_eq_left le_top]; push_cast; rfl
  · refine ⟨min 15 (max 0 (m + z)), by omega, by omega, ?_, ?_⟩
    · rw [← EReal.coe_add, ← EReal.coe_zero, ← coe_max', ← coe_min']
      congr 1
      push_cast
      rfl
    · have : min 15 (max 0 (m + z)) - z = min (15 - z) (max (0 - z) m) := by omega
      rw [this, ← EReal.coe_sub, ← EReal.coe_zero, ← EReal.coe_sub, ← coe_max', ← coe_min']
      congr 1
      push_cast
      rfl

/-- An integer inside the range converts to itself. -/
theorem fptosi_int (w : Nat) (n : ℤ) (h0 : -(2 ^ (w - 1) : Nat) ≤ n) (h1 : n ≤ ((2 ^ (w - 1) : Nat) : ℤ) - 1) :
    Ideal.fptosi w ((n : ℝ) : EReal) = BitVec.ofInt w n := by
  unfold Ideal.fptosi Ideal.toIntClamped
  have : (if (0 : ℝ) ≤ (n : ℝ) then ⌊(n : ℝ)⌋ else ⌈(n : ℝ)⌉) = n := by split <;> simp
  show BitVec.ofInt w (max _ (min _ (if (0 : ℝ) ≤ (n : ℝ) then ⌊(n : ℝ)⌋ else ⌈(n : ℝ)⌉))) = _
  rw [this, min_eq_right h1, max_eq_right h0]

/-- The facts of one group and one of its numbers, together: the zero point is an integer `z` and the code an integer `n`,
    both between 0 and 15, and the kernel's clipped difference is `n − z`. -/
theorem group_facts (v : Fin 128 → EReal) (x : EReal) :
    ∃ z n : ℤ, 0 ≤ z ∧ z ≤ 15 ∧ 0 ≤ n ∧ n ≤ 15 ∧ gZp v = ((z : ℝ) : EReal) ∧ gQ v x = ((n : ℝ) : EReal)
      ∧ min (((15 : ℝ) : EReal) - gZp v) (max (0 - gZp v) (rnd (Ideal.div x (gSc v)))) = (((n - z : ℤ) : ℝ) : EReal) := by
  obtain ⟨z, h0, h1, hz⟩ := zpOf_int (gLo_le v) (le_gHi v)
  obtain ⟨n, g0, g1, e1, e2⟩ := clip_shift (rnd_cases (Ideal.div x (gSc v))) h0 h1
  have hz' : gZp v = ((z : ℝ) : EReal) := hz
  refine ⟨z, n, h0, h1, g0, g1, hz', ?_, ?_⟩
  · unfold gQ; rw [hz']; exact e1
  · rw [hz']; exact e2

theorem sub_codes : ∀ n z : Fin 16,
    (IntOp.subi (((BitVec.ofInt 32 (n.val : ℤ)).setWidth 8).setWidth 32) (((BitVec.ofInt 32 (z.val : ℤ)).setWidth 8).setWidth 32)).toInt
      = (n.val : ℤ) - (z.val : ℤ) := by decide +kernel

theorem int16_cases {n : ℤ} (h0 : 0 ≤ n) (h1 : n ≤ 15) : ∃ m : Fin 16, n = (m.val : ℤ) :=
  ⟨⟨n.toNat, by omega⟩, by show n = (n.toNat : ℤ); omega⟩

/-- The dequantised number is the clipped difference times the step. -/
theorem gA_eq (v : Fin 128 → EReal) (x : EReal) :
    min (((15 : ℝ) : EReal) - gZp v) (max (0 - gZp v) (rnd (Ideal.div x (gSc v)))) * gSc v = gA v x := by
  obtain ⟨z, n, h0, h1, g0, g1, ez, en, e⟩ := group_facts v x
  unfold gA gCode gZero
  rw [e, ez, en, fptosi_int 32 n (by norm_num <;> omega) (by norm_num <;> omega), fptosi_int 32 z (by norm_num <;> omega) (by norm_num <;> omega)]
  obtain ⟨m, rfl⟩ := int16_cases g0 g1
  obtain ⟨w, rfl⟩ := int16_cases h0 h1
  rw [sub_codes]

/-- The kernel's packing of the two words `128 + n`. -/
def packK (e o : BitVec 16) : BitVec 8 :=
  BitVec.setWidth 8 (BitVec.setWidth 16 (IntOp.ori (IntOp.andi (o ++ e) 15#32) (IntOp.andi (IntOp.shrui .vector (o ++ e) 12#32) 240#32)))

theorem packK_codes : ∀ n m : Fin 16,
    packK (BitVec.ofInt 16 ((n.val : ℤ) + 128)) (BitVec.ofInt 16 ((m.val : ℤ) + 128))
      = pack ((BitVec.ofInt 32 (n.val : ℤ)).setWidth 8) ((BitVec.ofInt 32 (m.val : ℤ)).setWidth 8) := by decide +kernel

/-- The kernel's sixteen-bit word of a number: its clipped difference plus (zero point plus 128), converted. -/
def word (v : Fin 128 → EReal) (x : EReal) : BitVec 16 :=
  Ideal.fptosi 16 (min (((15 : ℝ) : EReal) - gZp v) (max (0 - gZp v) (rnd (Ideal.div x (gSc v)))) + (gZp v + ((128 : ℝ) : EReal)))

/-- Packing the kernel's words of two numbers packs their codes. -/
theorem packK_word (v : Fin 128 → EReal) (x y : EReal) : packK (word v x) (word v y) = pack (gCode v x) (gCode v y) := by
  have hw : ∀ x, ∃ n : Fin 16, word v x = BitVec.ofInt 16 ((n.val : ℤ) + 128) ∧ gCode v x = (BitVec.ofInt 32 (n.val : ℤ)).setWidth 8 := by
    intro x
    obtain ⟨z, n, h0, h1, g0, g1, ez, en, e⟩ := group_facts v x
    obtain ⟨m, rfl⟩ := int16_cases g0 g1
    refine ⟨m, ?_, ?_⟩
    · unfold word
      rw [e, ez, ← EReal.coe_add, ← EReal.coe_add]
      rw [show ((((m.val : ℤ) - z : ℤ) : ℝ) + ((z : ℝ) + 128)) = (((m.val : ℤ) + 128 : ℤ) : ℝ) by push_cast; ring]
      exact fptosi_int 16 _ (by norm_num <;> omega) (by norm_num <;> omega)
    · unfold gCode
      rw [en, fptosi_int 32 _ (by norm_num <;> omega) (by norm_num <;> omega)]
  obtain ⟨n, e1, e2⟩ := hw x
  obtain ⟨m, e3, e4⟩ := hw y
  rw [e1, e2, e3, e4, packK_codes]

/-- Multiplying by the reciprocal of the step is dividing by it. -/
theorem mul_inv_sc (v : Fin 128 → EReal) (x : EReal) : x * Ideal.div 1 (gSc v) = Ideal.div x (gSc v) :=
  Ideal.mul_one_div (scOf_ne (gLo_le v) (le_gHi v))

end Cert.Quant
end
-- ==== Proof.QuantPay.lean ====
module

public import proofs.«01_k».proof.Proof.Base
public import proofs.«01_k».proof.Proof.Scal

@[expose] public section

set_option maxRecDepth 16384

noncomputable section

/-! What one trip of the quantiser's loop computes of one 128 × 128 tile, at exact values: element by element the group
    quantiser of `Scal.lean`, the group being the tile's row. -/

namespace Cert.KernelIdeal.Val

open Idealize.ShloMosaic Idealize.ShloMosaic.TcCoe Idealize.ShloMosaic.Tactic
open Idealize.SL Idealize.SL.Sem
open Cert.KernelIdeal.Gen Cert.Quant

variable (r : FVec Ideal S128x1 .f32) (x : Vec Ideal S128x128 .bf16) (g : Vec Ideal S1x128 .f32)

/-- Row `b` of the normalised tile: one group. -/
def rowOf (b : Fin 128) : Fin 128 → EReal := fun j => k0_pay1 (F := Ideal) r x g (ix2 b j)

theorem k0_pay1_apply (a b : Fin 128) :
    k0_pay1 (F := Ideal) r x g (ix2 a b) = x (ix2 a b) * r (ix2 a 0) * g (ix2 0 b) := by
  pointwise [k0_pay1]

theorem k0_pay2_apply (a b : Fin 128) : k0_pay2 (F := Ideal) r x g (ix2 a b) = rowOf r x g b a := by
  pointwise [k0_pay2]; rfl

theorem k0_pay3_apply (b : Fin 128) : k0_pay3 (F := Ideal) r x g (ix2 0 b) = gLo (rowOf r x g b) := by
  pointwise [k0_pay3]
  simp only [k0_pay2_apply, ofBits_pinf_bf16]
  rfl

theorem k0_pay4_apply (b : Fin 128) : k0_pay4 (F := Ideal) r x g (ix2 0 b) = gSc (rowOf r x g b) := by
  pointwise [k0_pay4]
  simp only [k0_pay2_apply, k0_pay3_apply, ofBits_ninf_bf16, ofBits_15_f32]
  rfl

theorem k0_pay5_apply (b : Fin 128) : k0_pay5 (F := Ideal) r x g (ix2 0 b) = Ideal.div 1 (gSc (rowOf r x g b)) := by
  pointwise [k0_pay5]
  rw [k0_pay4_apply]

theorem k0_pay6_apply (b : Fin 128) : k0_pay6 (F := Ideal) r x g (ix2 0 b) = gZp (rowOf r x g b) := by
  pointwise [k0_pay6]
  rw [k0_pay3_apply, k0_pay5_apply, mul_inv_sc, zero_sub]
  rfl

theorem k0_pay7_apply (b : Fin 128) : k0_pay7 (F := Ideal) r x g (ix2 0 b) = gZp (rowOf r x g b) := by
  pointwise [k0_pay7]
  exact k0_pay6_apply r x g b

theorem k0_pay8_apply (a b : Fin 128) :
    k0_pay8 (F := Ideal) r x g (ix2 a b) = rnd (Ideal.div (rowOf r x g b a) (gSc (rowOf r x g b))) := by
  pointwise [k0_pay8]
  rw [k0_pay2_apply, k0_pay5_apply, mul_inv_sc]

/-- The clipped difference, lane `a` of group `b`. -/
theorem k0_pay9_apply (a b : Fin 128) :
    k0_pay9 (F := Ideal) (k0_pay7 r x g) (k0_pay8 r x g) (ix2 a b)
      = min (((15 : ℝ) : EReal) - gZp (rowOf r x g b))
          (max (0 - gZp (rowOf r x g b)) (rnd (Ideal.div (rowOf r x g b a) (gSc (rowOf r x g b))))) := by
  pointwise [k0_pay9]
  rw [k0_pay7_apply, k0_pay8_apply, ofBits_15_bf16]

/-- The stored dequantised tile. -/
theorem k0_pay10_apply (a b : Fin 128) :
    k0_pay10 (F := Ideal) (k0_pay4 r x g) (k0_pay7 r x g) (k0_pay8 r x g) (ix2 b a) = gA (rowOf r x g b) (rowOf r x g b a) := by
  pointwise [k0_pay10]
  rw [k0_pay9_apply, k0_pay4_apply, gA_eq]

/-- The words a trip packs, lane `a` of group `b`. -/
theorem word_apply (a b : Fin 128) :
    fptosi 16 (addf (k0_pay9 (F := Ideal) (k0_pay7 r x g) (k0_pay8 r x g))
      (broadcastTo S128x128 (addf (k0_pay7 (F := Ideal) r x g) (broadcast S1x128 (Ideal.ofBits FTy.bf16 17152#16)))
        broadcasts_S1x128_S128x128)) (ix2 a b) = word (rowOf r x g b) (rowOf r x g b a) := by
  pointwise
  rw [k0_pay9_apply, k0_pay7_apply, ofBits_128_bf16]
  rfl

theorem k0_pay15_eq : k0_pay15 (F := Ideal) r (k0_pay14 x) g = k0_pay1 r x g := rfl
theorem k0_pay18_eq : k0_pay18 (F := Ideal) r (k0_pay14 x) g = k0_pay4 r x g := rfl
theorem k0_pay20_eq : k0_pay20 (F := Ideal) r (k0_pay14 x) g = k0_pay6 r x g := rfl
theorem k0_pay21_eq : k0_pay21 (F := Ideal) r (k0_pay14 x) g = k0_pay7 r x g := rfl
theorem k0_pay22_eq : k0_pay22 (F := Ideal) r (k0_pay14 x) g = k0_pay9 (k0_pay7 r x g) (k0_pay8 r x g) := rfl
theorem k0_pay40_eq : k0_pay40 (F := Ideal) (k0_pay4 r x g) (k0_pay9 (k0_pay7 r x g) (k0_pay8 r x g))
    = k0_pay10 (k0_pay4 r x g) (k0_pay7 r x g) (k0_pay8 r x g) := rfl
theorem k0_pay11_eq (u : FVec Ideal S1x128 .f32) : k0_pay11 (F := Ideal) u = u := by
  funext j; idx_vars j; pointwise [k0_pay11]
theorem k0_pay12_eq (u : FVec Ideal S1x128 .f32) : k0_pay12 (F := Ideal) u = u := by
  funext j; idx_vars j; pointwise [k0_pay12]
theorem k0_pay41_eq (u : FVec Ideal S1x128 .f32) : k0_pay41 (F := Ideal) u = u := by
  funext j; idx_vars j; pointwise [k0_pay41]
theorem k0_pay42_eq (u : FVec Ideal S1x128 .f32) : k0_pay42 (F := Ideal) u = u := by
  funext j; idx_vars j; pointwise [k0_pay42]

variable (x' : Vec Ideal S128x128 .bf16) (g' : Vec Ideal S1x128 .f32)

theorem k0_pay43_apply (a b : Fin 128) :
    k0_pay43 (F := Ideal) (k0_pay13 (k0_pay7 r x g) (k0_pay8 r x g)) (k0_pay7 r x' g') (k0_pay9 (k0_pay7 r x' g') (k0_pay8 r x' g')) (ix2 b a)
      = if a.val < 64 then pack (gCode (rowOf r x g b) (rowOf r x g b ⟨2 * (a.val % 64), by omega⟩)) (gCode (rowOf r x g b) (rowOf r x g b ⟨2 * (a.val % 64) + 1, by omega⟩))
        else pack (gCode (rowOf r x' g' b) (rowOf r x' g' b ⟨2 * (a.val % 64), by omega⟩)) (gCode (rowOf r x' g' b) (rowOf r x' g' b ⟨2 * (a.val % 64) + 1, by omega⟩)) := by
  pointwise [k0_pay43]
  split
  · rename_i h
    pointwise [k0_pay13]
    rw [bitcast_16_32_ix2 _ _ _ _ ⟨2 * (a.val % 64) + 1, by omega⟩ ⟨2 * (a.val % 64), by omega⟩ (by show 2 * (a.val % 64) + 1 = 2 * a.val + 1; omega) (by show 2 * (a.val % 64) = 2 * a.val; omega)]
    rw [word_apply, word_apply]
    exact packK_word _ _ _
  · rename_i h
    pointwise
    rw [bitcast_16_32_ix2 _ _ _ _ ⟨2 * (a.val % 64) + 1, by omega⟩ ⟨2 * (a.val % 64), by omega⟩ (by show 2 * (a.val % 64) + 1 = 2 * (a.val - 64) + 1; omega) (by show 2 * (a.val % 64) = 2 * (a.val - 64); omega)]
    rw [word_apply, word_apply]
    exact packK_word _ _ _

theorem k0_pay44_apply (u : Vec Ideal S96x128 .f32) (a : Fin 128) (b : Fin 96) : k0_pay44 (F := Ideal) u (ix2 a b) = u (ix2 b a) := by
  pointwise [k0_pay44]
theorem k0_pay45_apply (u : Vec Ideal S96x128 .f32) (a : Fin 128) (b : Fin 96) :
    k0_pay45 (F := Ideal) u (ix2 a b) = (Ideal.fptosi 32 (u (ix2 b a))).setWidth 8 := by
  pointwise [k0_pay45]; rfl

end Cert.KernelIdeal.Val
end
-- ==== Proof.QuantTrip.lean ====
module

public import proofs.«01_k».proof.Proof.QuantPay
public import Idealize.ShloMosaic.Lib.WholeRead

@[expose] public section

set_option maxRecDepth 16384

noncomputable section

/-! The quantiser's loop: what its trips store of one block of 128 rows, given the rows' reciprocal norms. -/

namespace Cert.KernelIdeal.Val

open Idealize.ShloMosaic Idealize.ShloMosaic.TcCoe Idealize.ShloMosaic.Tactic
open Idealize.SL Idealize.SL.Sem
open Cert.KernelIdeal.Gen Cert.Quant

section Spec
variable (r : FVec Ideal S128x1 .f32) (x0 : Vec Ideal S128x12288 .bf16) (x1 : Vec Ideal S1x12288 .f32)

/-- The normalised block. -/
def xnB (y : S128x12288.Idx) : EReal := x0 y * r (ix2 (y 0) 0) * x1 (ix2 0 (y 1))
/-- Group `g` of row `a`. -/
def grpB (a : Fin 128) (g : Fin 96) : Fin 128 → EReal := fun j => xnB r x0 x1 (ix2 a ⟨128 * g.val + j.val, by omega⟩)
/-- The dequantised block. -/
def aB (y : S128x12288.Idx) : EReal :=
  gA (grpB r x0 x1 (y 0) ⟨(y 1).val / 128, by have := (y 1).isLt; change _ < 12288 at this; omega⟩) (xnB r x0 x1 y)
/-- The packed codes: byte `c` of a row holds elements `2 (c % 64)` and `2 (c % 64) + 1` of group `c / 64`. -/
def codB (y : S128x6144.Idx) : BitVec 8 :=
  pack (gCode (grpB r x0 x1 (y 0) ⟨(y 1).val / 64, by have := (y 1).isLt; change _ < 6144 at this; omega⟩)
      (grpB r x0 x1 (y 0) ⟨(y 1).val / 64, by have := (y 1).isLt; change _ < 6144 at this; omega⟩ ⟨2 * ((y 1).val % 64), by omega⟩))
    (gCode (grpB r x0 x1 (y 0) ⟨(y 1).val / 64, by have := (y 1).isLt; change _ < 6144 at this; omega⟩)
      (grpB r x0 x1 (y 0) ⟨(y 1).val / 64, by have := (y 1).isLt; change _ < 6144 at this; omega⟩ ⟨2 * ((y 1).val % 64) + 1, by omega⟩))
/-- The steps, a row per group. -/
def scS (y : S96x128.Idx) : EReal := gSc (grpB r x0 x1 (y 1) (y 0))
/-- The zero points, a row per group. -/
def zpS (y : S96x128.Idx) : EReal := gZp (grpB r x0 x1 (y 1) (y 0))

/-- A tile that reads columns `128 g` onwards has group `g` in each row. -/
theorem rowOf_eq (X : Vec Ideal S128x128 .bf16) (G : Vec Ideal S1x128 .f32) (g : Fin 96)
    (hX : ∀ a j : Fin 128, X (ix2 a j) = x0 (ix2 a ⟨128 * g.val + j.val, by omega⟩))
    (hG : ∀ j : Fin 128, G (ix2 0 j) = x1 (ix2 0 ⟨128 * g.val + j.val, by omega⟩)) (b : Fin 128) :
    rowOf r X G b = grpB r x0 x1 b g := by
  funext j
  show k0_pay1 (F := Ideal) r X G (ix2 b j) = _
  rw [k0_pay1_apply, hX, hG]
  rfl
end Spec

section Pieces
variable (r : FVec Ideal S128x1 .f32) (x0 : Vec Ideal S128x12288 .bf16) (x1 : Vec Ideal S1x12288 .f32)
  (X : Vec Ideal S128x128 .bf16) (G : Vec Ideal S1x128 .f32)

/-- The stored normalised tile is the block at the tile's place. -/
theorem pieceXn (g : Fin 96) (h : ∀ b, rowOf r X G b = grpB r x0 x1 b g) (off : Fin 2 → Nat) (inb)
    (ho : off = ![0, 128 * g.val]) (x : S128x128.Idx) :
    k0_pay1 (F := Ideal) r X G x = xnB r x0 x1 ((Rect.unit (s := S128x12288) off S128x128.size inb).emb x) := by
  obtain ⟨a, b, rfl⟩ : ∃ a b : Fin 128, x = ix2 a b := ⟨x 0, x 1, eq_ix2 x⟩
  show rowOf r X G a b = _
  rw [h, unit_emb2 a b a (⟨128 * g.val + b.val, by omega⟩ : Fin 12288) (by rw [ho]; exact (Nat.zero_add _).symm) (by rw [ho]; rfl)]
  rfl

/-- The stored dequantised tile is the dequantised block at the tile's place. -/
theorem pieceA (g : Fin 96) (h : ∀ b, rowOf r X G b = grpB r x0 x1 b g) (off : Fin 2 → Nat) (inb)
    (ho : off = ![0, 128 * g.val]) (x : S128x128.Idx) :
    k0_pay10 (F := Ideal) (k0_pay4 r X G) (k0_pay7 r X G) (k0_pay8 r X G) x
      = aB r x0 x1 ((Rect.unit (s := S128x12288) off S128x128.size inb).emb x) := by
  obtain ⟨a, b, rfl⟩ : ∃ a b : Fin 128, x = ix2 a b := ⟨x 0, x 1, eq_ix2 x⟩
  rw [k0_pay10_apply, h, unit_emb2 a b a (⟨128 * g.val + b.val, by omega⟩ : Fin 12288) (by rw [ho]; exact (Nat.zero_add _).symm) (by rw [ho]; rfl)]
  unfold aB
  have e : (128 * g.val + b.val) / 128 = g.val := by omega
  simp only [ix2_0, ix2_1, e]
  rfl

/-- The stored steps. -/
theorem pieceSc (f : FVec Ideal S1x128 .f32 → FVec Ideal S1x128 .f32) (hf : ∀ u, f u = u) (g : Fin 96) (h : ∀ b, rowOf r X G b = grpB r x0 x1 b g) (off : Fin 2 → Nat) (inb)
    (ho : off = ![g.val, 0]) (x : S1x128.Idx) :
    f (k0_pay4 (F := Ideal) r X G) x = scS r x0 x1 ((Rect.unit (s := S96x128) off S1x128.size inb).emb x) := by
  obtain ⟨a, b, rfl⟩ : ∃ (a : Fin 1) (b : Fin 128), x = ix2 a b := ⟨x 0, x 1, eq_ix2 x⟩
  obtain rfl : a = 0 := Subsingleton.elim _ _
  rw [hf, k0_pay4_apply, h, unit_emb2 0 b g b (by rw [ho]; rfl) (by rw [ho]; exact (Nat.zero_add _).symm)]
  rfl

/-- The stored zero points. -/
theorem pieceZp (f : FVec Ideal S1x128 .f32 → FVec Ideal S1x128 .f32) (hf : ∀ u, f u = u) (g : Fin 96) (h : ∀ b, rowOf r X G b = grpB r x0 x1 b g) (off : Fin 2 → Nat) (inb)
    (ho : off = ![g.val, 0]) (x : S1x128.Idx) :
    f (k0_pay6 (F := Ideal) r X G) x = zpS r x0 x1 ((Rect.unit (s := S96x128) off S1x128.size inb).emb x) := by
  obtain ⟨a, b, rfl⟩ : ∃ (a : Fin 1) (b : Fin 128), x = ix2 a b := ⟨x 0, x 1, eq_ix2 x⟩
  obtain rfl : a = 0 := Subsingleton.elim _ _
  rw [hf, k0_pay6_apply, h, unit_emb2 0 b g b (by rw [ho]; rfl) (by rw [ho]; exact (Nat.zero_add _).symm)]
  rfl

/-- The stored codes of two groups. -/
theorem pieceCod (X' : Vec Ideal S128x128 .bf16) (G' : Vec Ideal S1x128 .f32) (k : Nat) (hk : k < 48)
    (h : ∀ b, rowOf r X G b = grpB r x0 x1 b ⟨2 * k, by omega⟩) (h' : ∀ b, rowOf r X' G' b = grpB r x0 x1 b ⟨2 * k + 1, by omega⟩)
    (off : Fin 2 → Nat) (inb) (ho : off = ![0, 128 * k]) (x : S128x128.Idx) :
    k0_pay43 (F := Ideal) (k0_pay13 (k0_pay7 r X G) (k0_pay8 r X G)) (k0_pay7 r X' G') (k0_pay9 (k0_pay7 r X' G') (k0_pay8 r X' G')) x
      = codB r x0 x1 ((Rect.unit (s := S128x6144) off S128x128.size inb).emb x) := by
  obtain ⟨b, a, rfl⟩ : ∃ b a : Fin 128, x = ix2 b a := ⟨x 0, x 1, eq_ix2 x⟩
  rw [k0_pay43_apply, h, h', unit_emb2 b a b (⟨128 * k + a.val, by omega⟩ : Fin 6144) (by rw [ho]; exact (Nat.zero_add _).symm) (by rw [ho]; rfl)]
  unfold codB
  have em : (128 * k + a.val) % 64 = a.val % 64 := by omega
  by_cases hlt : a.val < 64
  · have e : (128 * k + a.val) / 64 = 2 * k := by omega
    rw [if_pos hlt]
    simp only [ix2_0, ix2_1, e, em]
  · have e : (128 * k + a.val) / 64 = 2 * k + 1 := by omega
    rw [if_neg hlt]
    simp only [ix2_0, ix2_1, e, em]
end Pieces

theorem k0_off1_eq : ∀ k : Fin k0_t1_loop.trips, k0_off1 k = ![0, 256 * k.val] := by decide +kernel
theorem k0_off2_eq : ∀ k : Fin k0_t1_loop.trips, k0_off2 k = ![0, 256 * k.val] := by decide +kernel
theorem k0_off3_eq : ∀ k : Fin k0_t1_loop.trips, k0_off3 k = ![2 * k.val, 0] := by decide +kernel
theorem k0_off4_eq : ∀ k : Fin k0_t1_loop.trips, k0_off4 k = ![0, 256 * k.val + 128] := by decide +kernel
theorem k0_off5_eq : ∀ k : Fin k0_t1_loop.trips, k0_off5 k = ![0, 256 * k.val + 128] := by decide +kernel
theorem k0_off6_eq : ∀ k : Fin k0_t1_loop.trips, k0_off6 k = ![2 * k.val + 1, 0] := by decide +kernel
theorem k0_off7_eq : ∀ k : Fin k0_t1_loop.trips, k0_off7 k = ![0, 128 * k.val] := by decide +kernel

section K0
variable (𝒱 : Variants) (c : Dev nD) (bd : Option 𝒱.V) (i : grid0.Coords) (arg1 : Memref sig .tc .vmem S128x12288 .bf16) (harg1 : arg1.IsWhole) (arg2 : Memref sig .tc .vmem S1x12288 .f32) (harg2 : arg2.IsWhole) (arg3 : Memref sig .tc .vmem S128x12288 .bf16) (harg3 : arg3.IsWhole) (arg4 : Memref sig .tc .vmem S128x12288 .bf16) (harg4 : arg4.IsWhole) (arg5 : Memref sig .tc .vmem S128x6144 .i8) (harg5 : arg5.IsWhole) (arg6 : Memref sig .tc .vmem S128x96 .f32) (harg6 : arg6.IsWhole) (arg7 : Memref sig .tc .vmem S128x96 .i8) (harg7 : arg7.IsWhole) (arg8 : Memref sig .tc .vmem S96x128 .f32) (harg8 : arg8.IsWhole) (arg9 : Memref sig .tc .vmem S96x128 .f32) (harg9 : arg9.IsWhole)
  (v465 v469 : FVec Ideal S128x128 .f32) (v471 v476 : Vec Ideal S128x128 .bf16) (x0 : Vec Ideal S128x12288 .bf16) (x1 : Vec Ideal S1x12288 .f32)

/-- Trip `k`'s first tile of the block. -/
def tA (k : Fin k0_t1_loop.trips) : Vec Ideal S128x128 .bf16 :=
  View.readAt (Elt Ideal) arg1.view (Rect.unit (s := S128x12288) (k0_off1 k) S128x128.size (k0_off1_inb k)).toLoadRect (harg1.unread x0)
/-- Trip `k`'s second tile of the block. -/
def tB (k : Fin k0_t1_loop.trips) : Vec Ideal S128x128 .bf16 :=
  View.readAt (Elt Ideal) arg1.view (Rect.unit (s := S128x12288) (k0_off4 k) S128x128.size (k0_off4_inb k)).toLoadRect (harg1.unread x0)
/-- Trip `k`'s first slice of the weight row. -/
def gA1 (k : Fin k0_t1_loop.trips) : Vec Ideal S1x128 .f32 :=
  View.readAt (Elt Ideal) arg2.view (Rect.unit (s := S1x12288) (k0_off2 k) S1x128.size (k0_off2_inb k)).toLoadRect (harg2.unread x1)
/-- Trip `k`'s second slice of the weight row. -/
def gB1 (k : Fin k0_t1_loop.trips) : Vec Ideal S1x128 .f32 :=
  View.readAt (Elt Ideal) arg2.view (Rect.unit (s := S1x12288) (k0_off5 k) S1x128.size (k0_off5_inb k)).toLoadRect (harg2.unread x1)

theorem tA_apply (k : Fin k0_t1_loop.trips) (a j : Fin 128) :
    tA arg1 harg1 x0 k (ix2 a j) = x0 (ix2 a ⟨256 * k.val + j.val, by have : k.val < 48 := k.isLt; omega⟩) := by
  unfold tA
  rw [Memref.IsWhole.readAt_unread]
  exact congrArg x0 (unit_idx2 a j _ _ (by rw [k0_off1_eq]; exact (Nat.zero_add _).symm) (by rw [k0_off1_eq]; rfl))
theorem tB_apply (k : Fin k0_t1_loop.trips) (a j : Fin 128) :
    tB arg1 harg1 x0 k (ix2 a j) = x0 (ix2 a ⟨256 * k.val + 128 + j.val, by have : k.val < 48 := k.isLt; omega⟩) := by
  unfold tB
  rw [Memref.IsWhole.readAt_unread]
  exact congrArg x0 (unit_idx2 a j _ _ (by rw [k0_off4_eq]; exact (Nat.zero_add _).symm) (by rw [k0_off4_eq]; rfl))
theorem gA1_apply (k : Fin k0_t1_loop.trips) (j : Fin 128) :
    gA1 arg2 harg2 x1 k (ix2 0 j) = x1 (ix2 0 ⟨256 * k.val + j.val, by have : k.val < 48 := k.isLt; omega⟩) := by
  unfold gA1
  rw [Memref.IsWhole.readAt_unread]
  exact congrArg x1 (unit_idx2 0 j _ _ (by rw [k0_off2_eq]; rfl) (by rw [k0_off2_eq]; rfl))
theorem gB1_apply (k : Fin k0_t1_loop.trips) (j : Fin 128) :
    gB1 arg2 harg2 x1 k (ix2 0 j) = x1 (ix2 0 ⟨256 * k.val + 128 + j.val, by have : k.val < 48 := k.isLt; omega⟩) := by
  unfold gB1
  rw [Memref.IsWhole.readAt_unread]
  exact congrArg x1 (unit_idx2 0 j _ _ (by rw [k0_off5_eq]; rfl) (by rw [k0_off5_eq]; rfl))

theorem rowA (r : FVec Ideal S128x1 .f32) (k : Fin k0_t1_loop.trips) (b : Fin 128) :
    rowOf r (tA arg1 harg1 x0 k) (gA1 arg2 harg2 x1 k) b = grpB r x0 x1 b ⟨2 * k.val, by have : k.val < 48 := k.isLt; omega⟩ :=
  rowOf_eq r x0 x1 _ _ _ (fun a j => by
      rw [tA_apply]; congr 2; exact Fin.ext (show 256 * k.val + j.val = 128 * (2 * k.val) + j.val by omega))
    (fun j => by rw [gA1_apply]; congr 2; exact Fin.ext (show 256 * k.val + j.val = 128 * (2 * k.val) + j.val by omega)) b
theorem rowB (r : FVec Ideal S128x1 .f32) (k : Fin k0_t1_loop.trips) (b : Fin 128) :
    rowOf r (tB arg1 harg1 x0 k) (gB1 arg2 harg2 x1 k) b = grpB r x0 x1 b ⟨2 * k.val + 1, by have : k.val < 48 := k.isLt; omega⟩ :=
  rowOf_eq r x0 x1 _ _ _ (fun a j => by
      rw [tB_apply]; congr 2; exact Fin.ext (show 256 * k.val + 128 + j.val = 128 * (2 * k.val + 1) + j.val by omega))
    (fun j => by rw [gB1_apply]; congr 2; exact Fin.ext (show 256 * k.val + 128 + j.val = 128 * (2 * k.val + 1) + j.val by omega)) b

/-- Trip `k`'s five lists of stores, in terms of its two tiles. -/
theorem trip0_eq (k : Fin k0_t1_loop.trips) (r : FVec Ideal S128x1 .f32) (hr : k0_pay39 v465 v469 v471 v476 = r) :
    tripL_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) k
      = ([⟨Rect.unit (s := S128x12288) (k0_off4 k) S128x128.size (k0_off4_inb k), k0_pay1 r (tB arg1 harg1 x0 k) (gB1 arg2 harg2 x1 k)⟩,
          ⟨Rect.unit (s := S128x12288) (k0_off1 k) S128x128.size (k0_off1_inb k), k0_pay1 r (tA arg1 harg1 x0 k) (gA1 arg2 harg2 x1 k)⟩],
         [⟨Rect.unit (s := S128x12288) (k0_off4 k) S128x128.size (k0_off4_inb k),
            k0_pay10 (k0_pay4 r (tB arg1 harg1 x0 k) (gB1 arg2 harg2 x1 k)) (k0_pay7 r (tB arg1 harg1 x0 k) (gB1 arg2 harg2 x1 k)) (k0_pay8 r (tB arg1 harg1 x0 k) (gB1 arg2 harg2 x1 k))⟩,
          ⟨Rect.unit (s := S128x12288) (k0_off1 k) S128x128.size (k0_off1_inb k),
            k0_pay10 (k0_pay4 r (tA arg1 harg1 x0 k) (gA1 arg2 harg2 x1 k)) (k0_pay7 r (tA arg1 harg1 x0 k) (gA1 arg2 harg2 x1 k)) (k0_pay8 r (tA arg1 harg1 x0 k) (gA1 arg2 harg2 x1 k))⟩],
         [⟨Rect.unit (s := S128x6144) (k0_off7 k) S128x128.size (k0_off7_inb k),
            k0_pay43 (k0_pay13 (k0_pay7 r (tA arg1 harg1 x0 k) (gA1 arg2 harg2 x1 k)) (k0_pay8 r (tA arg1 harg1 x0 k) (gA1 arg2 harg2 x1 k)))
              (k0_pay7 r (tB arg1 harg1 x0 k) (gB1 arg2 harg2 x1 k))
              (k0_pay9 (k0_pay7 r (tB arg1 harg1 x0 k) (gB1 arg2 harg2 x1 k)) (k0_pay8 r (tB arg1 harg1 x0 k) (gB1 arg2 harg2 x1 k)))⟩],
         [⟨Rect.unit (s := S96x128) (k0_off6 k) S1x128.size (k0_off6_inb k), k0_pay41 (k0_pay4 r (tB arg1 harg1 x0 k) (gB1 arg2 harg2 x1 k))⟩,
          ⟨Rect.unit (s := S96x128) (k0_off3 k) S1x128.size (k0_off3_inb k), k0_pay11 (k0_pay4 r (tA arg1 harg1 x0 k) (gA1 arg2 harg2 x1 k))⟩],
         [⟨Rect.unit (s := S96x128) (k0_off6 k) S1x128.size (k0_off6_inb k), k0_pay42 (k0_pay6 r (tB arg1 harg1 x0 k) (gB1 arg2 harg2 x1 k))⟩,
          ⟨Rect.unit (s := S96x128) (k0_off3 k) S1x128.size (k0_off3_inb k), k0_pay12 (k0_pay6 r (tA arg1 harg1 x0 k) (gA1 arg2 harg2 x1 k))⟩]) := by
  subst hr
  unfold tripL_k0_t1 trip_k0_t1
  dsimp only
  rfl

/-- Every store of trip `k` agrees with the block's values. -/
theorem trip0_agrees (k : Fin k0_t1_loop.trips) (r : FVec Ideal S128x1 .f32) (hr : k0_pay39 v465 v469 v471 v476 = r) :
    Agrees (Val := Elt Ideal) (e := .bf16) (xnB r x0 x1) (tripL_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) k).1
      ∧ Agrees (Val := Elt Ideal) (e := .bf16) (aB r x0 x1) (tripL_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) k).2.1
      ∧ Agrees (Val := Elt Ideal) (e := .i8) (codB r x0 x1) (tripL_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) k).2.2.1
      ∧ Agrees (Val := Elt Ideal) (e := .f32) (scS r x0 x1) (tripL_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) k).2.2.2.1
      ∧ Agrees (Val := Elt Ideal) (e := .f32) (zpS r x0 x1) (tripL_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) k).2.2.2.2 := by
  have hk : k.val < 48 := k.isLt
  rw [trip0_eq 𝒱 c bd i arg1 harg1 arg2 harg2 arg3 harg3 arg4 harg4 arg5 harg5 arg6 harg6 arg7 harg7 arg8 harg8 arg9 harg9 v465 v469 v471 v476 x0 x1 k r hr]
  have hA := rowA arg1 harg1 arg2 harg2 x0 x1 r k
  have hB := rowB arg1 harg1 arg2 harg2 x0 x1 r k
  have o1 : k0_off1 k = ![0, 128 * (2 * k.val)] := by rw [k0_off1_eq]; congr 2; omega
  have o4 : k0_off4 k = ![0, 128 * (2 * k.val + 1)] := by rw [k0_off4_eq]; congr 2; omega
  have o7 := k0_off7_eq k
  refine ⟨?_, ?_, ?_, ?_, ?_⟩
  · exact Agrees.cons
      (pieceXn r x0 x1 (tB arg1 harg1 x0 k) (gB1 arg2 harg2 x1 k) ⟨2 * k.val + 1, by omega⟩ hB _ (k0_off4_inb k) o4)
      (Agrees.cons
        (pieceXn r x0 x1 (tA arg1 harg1 x0 k) (gA1 arg2 harg2 x1 k) ⟨2 * k.val, by omega⟩ hA _ (k0_off1_inb k) o1)
        (Agrees.nil _))
  · exact Agrees.cons
      (pieceA r x0 x1 (tB arg1 harg1 x0 k) (gB1 arg2 harg2 x1 k) ⟨2 * k.val + 1, by omega⟩ hB _ (k0_off4_inb k) o4)
      (Agrees.cons
        (pieceA r x0 x1 (tA arg1 harg1 x0 k) (gA1 arg2 harg2 x1 k) ⟨2 * k.val, by omega⟩ hA _ (k0_off1_inb k) o1)
        (Agrees.nil _))
  · have hC := pieceCod r x0 x1 (tA arg1 harg1 x0 k) (gA1 arg2 harg2 x1 k) (tB arg1 harg1 x0 k) (gB1 arg2 harg2 x1 k) k.val hk hA hB
      (k0_off7 k) (k0_off7_inb k) o7
    exact Agrees.cons hC (Agrees.nil _)
  · have h1 := pieceSc r x0 x1 (tB arg1 harg1 x0 k) (gB1 arg2 harg2 x1 k) (k0_pay41 (F := Ideal)) k0_pay41_eq ⟨2 * k.val + 1, by omega⟩ hB _ (k0_off6_inb k) (k0_off6_eq k)
    have h2 := pieceSc r x0 x1 (tA arg1 harg1 x0 k) (gA1 arg2 harg2 x1 k) (k0_pay11 (F := Ideal)) k0_pay11_eq ⟨2 * k.val, by omega⟩ hA _ (k0_off3_inb k) (k0_off3_eq k)
    clear hA hB hr
    exact Agrees.cons_mk h1 (Agrees.cons_mk h2 (Agrees.nil _))
  · have h1 := pieceZp r x0 x1 (tB arg1 harg1 x0 k) (gB1 arg2 harg2 x1 k) (k0_pay42 (F := Ideal)) k0_pay42_eq ⟨2 * k.val + 1, by omega⟩ hB _ (k0_off6_inb k) (k0_off6_eq k)
    have h2 := pieceZp r x0 x1 (tA arg1 harg1 x0 k) (gA1 arg2 harg2 x1 k) (k0_pay12 (F := Ideal)) k0_pay12_eq ⟨2 * k.val, by omega⟩ hA _ (k0_off3_inb k) (k0_off3_eq k)
    clear hA hB hr
    exact Agrees.cons_mk h1 (Agrees.cons_mk h2 (Agrees.nil _))

/-- Every store of the trips before `n` agrees with the block's values. -/
theorem pb0_agrees (r : FVec Ideal S128x1 .f32) (hr : k0_pay39 v465 v469 v471 v476 = r) (n : Nat) (hn : n ≤ k0_t1_loop.trips) :
    Agrees (Val := Elt Ideal) (e := .bf16) (xnB r x0 x1) (pb_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) n).1
      ∧ Agrees (Val := Elt Ideal) (e := .bf16) (aB r x0 x1) (pb_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) n).2.1
      ∧ Agrees (Val := Elt Ideal) (e := .i8) (codB r x0 x1) (pb_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) n).2.2.1
      ∧ Agrees (Val := Elt Ideal) (e := .f32) (scS r x0 x1) (pb_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) n).2.2.2.1
      ∧ Agrees (Val := Elt Ideal) (e := .f32) (zpS r x0 x1) (pb_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) n).2.2.2.2 := by
  induction n with
  | zero => exact ⟨Agrees.nil _, Agrees.nil _, Agrees.nil _, Agrees.nil _, Agrees.nil _⟩
  | succ n ih =>
    have e := pb_k0_t1_succ (F := Ideal) 𝒱 c bd i arg1 harg1 arg2 harg2 arg3 harg3 arg4 harg4 arg5 harg5 arg6 harg6 arg7 harg7 arg8 harg8 arg9 harg9 v465 v469 v471 v476 (harg1.unread x0) (harg2.unread x1) ⟨n, hn⟩
    dsimp only at e
    rw [e]
    obtain ⟨a1, a2, a3, a4, a5⟩ := trip0_agrees 𝒱 c bd i arg1 harg1 arg2 harg2 arg3 harg3 arg4 harg4 arg5 harg5 arg6 harg6 arg7 harg7 arg8 harg8 arg9 harg9 v465 v469 v471 v476 x0 x1 ⟨n, hn⟩ r hr
    obtain ⟨b1, b2, b3, b4, b5⟩ := ih (by omega)
    exact ⟨a1.append b1, a2.append b2, a3.append b3, a4.append b4, a5.append b5⟩

/-- Trip `k` writes rows `2 k` and `2 k + 1` of both scratch buffers. -/
theorem trip0_covered (k : Fin k0_t1_loop.trips) (y : S96x128.Idx) (hlo : 2 * k.val ≤ (y 0).val) (hhi : (y 0).val < 2 * k.val + 2) :
    Covered (tripL_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) k).2.2.2.1 y
      ∧ Covered (tripL_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) k).2.2.2.2 y := by
  rw [trip0_eq 𝒱 c bd i arg1 harg1 arg2 harg2 arg3 harg3 arg4 harg4 arg5 harg5 arg6 harg6 arg7 harg7 arg8 harg8 arg9 harg9 v465 v469 v471 v476 x0 x1 k _ rfl]
  have h1 := (y 1).isLt
  change (y 1).val < 128 at h1
  by_cases hev : (y 0).val = 2 * k.val
  · refine ⟨Covered.tail (Covered.head ?_), Covered.tail (Covered.head ?_)⟩ <;>
    · rw [Rect.mem_set_unit]
      exact bounds2 y (2 * k.val) 0 (k0_off3_eq k) ⟨by omega, by omega⟩ ⟨Nat.zero_le _, by omega⟩
  · refine ⟨Covered.head ?_, Covered.head ?_⟩ <;>
    · rw [Rect.mem_set_unit]
      exact bounds2 y (2 * k.val + 1) 0 (k0_off6_eq k) ⟨by omega, by omega⟩ ⟨Nat.zero_le _, by omega⟩

/-- The trips before `n` write the first `2 n` rows of both scratch buffers. -/
theorem pb0_covered (n : Nat) (hn : n ≤ k0_t1_loop.trips) (y : S96x128.Idx) (hy : (y 0).val < 2 * n) :
    Covered (pb_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) n).2.2.2.1 y
      ∧ Covered (pb_k0_t1 (F := Ideal) 𝒱 c bd i arg1 harg1 arg2 harg2 arg3 harg3 arg4 harg4 arg5 harg5 arg6 harg6 arg7 harg7 arg8 harg8 arg9 harg9 v465 v469 v471 v476 (harg1.unread x0) (harg2.unread x1) n).2.2.2.2 y := by
  induction n with
  | zero => omega
  | succ n ih =>
    have e := pb_k0_t1_succ (F := Ideal) 𝒱 c bd i arg1 harg1 arg2 harg2 arg3 harg3 arg4 harg4 arg5 harg5 arg6 harg6 arg7 harg7 arg8 harg8 arg9 harg9 v465 v469 v471 v476 (harg1.unread x0) (harg2.unread x1) ⟨n, hn⟩
    dsimp only at e
    rw [e]
    by_cases hlt : (y 0).val < 2 * n
    · obtain ⟨h1, h2⟩ := ih (by omega) hlt
      exact ⟨Covered.right _ h1, Covered.right _ h2⟩
    · obtain ⟨h1, h2⟩ := trip0_covered 𝒱 c bd i arg1 harg1 arg2 harg2 arg3 harg3 arg4 harg4 arg5 harg5 arg6 harg6 arg7 harg7 arg8 harg8 arg9 harg9 v465 v469 v471 v476 x0 x1 ⟨n, hn⟩ y
        (Nat.le_of_not_lt hlt) (by show (y 0).val < 2 * n + 2; omega)
      exact ⟨Covered.left h1 _, Covered.left h2 _⟩

end K0
end Cert.KernelIdeal.Val
end
-- ==== Proof.QuantSum.lean ====
module

public import proofs.«01_k».proof.Proof.QuantTrip

@[expose] public section

set_option maxRecDepth 16384

noncomputable section

/-! The quantiser's mean square: the sum of the squares of a row, as the kernel accumulates it. -/

namespace Cert.KernelIdeal.Val

open Idealize.ShloMosaic Idealize.ShloMosaic.TcCoe Idealize.ShloMosaic.Tactic
open Cert.KernelIdeal Cert.KernelIdeal.Gen

/-- Element `k` of row `a`, zero past the end of the row. -/
def xN (x0 : Vec Ideal S128x12288 .bf16) (a : Fin 128) (k : Nat) : EReal := if h : k < 12288 then x0 (ix2 a ⟨k, h⟩) else 0

/-- The sum over the first `n` groups of the square of lane `x` of the group. -/
def sqS (x0 : Vec Ideal S128x12288 .bf16) (a x : Fin 128) (n : Nat) : EReal :=
  ∑ g ∈ Finset.range n, xN x0 a (128 * g + x.val) * xN x0 a (128 * g + x.val)

theorem sqS_zero (x0 : Vec Ideal S128x12288 .bf16) (a x : Fin 128) : sqS x0 a x 0 = 0 := Finset.sum_range_zero _

theorem sqS_succ (x0 : Vec Ideal S128x12288 .bf16) (a x : Fin 128) (n : Nat) :
    sqS x0 a x (n + 1) = sqS x0 a x n + xN x0 a (128 * n + x.val) * xN x0 a (128 * n + x.val) := Finset.sum_range_succ _ _

theorem k0_pay23_apply (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (a x : Fin 128) :
    k0_pay23 (F := Ideal) v0 v1 v2 v3 v4 v5 v6 v7 (ix2 a x) = 0 + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) := by
  pointwise [k0_pay23]

theorem k0_pay24_apply (u : FVec Ideal S128x128 .f32) (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (a x : Fin 128) :
    k0_pay24 (F := Ideal) u v0 v1 v2 v3 v4 v5 v6 v7 (ix2 a x) = u (ix2 a x) + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) := by
  pointwise [k0_pay24]

theorem k0_pay25_apply (v0 : Vec Ideal S128x128 .bf16) (a x : Fin 128) :
    k0_pay25 (F := Ideal) v0 (ix2 a x) = v0 (ix2 a x) := by
  pointwise [k0_pay25]

theorem k0_pay26_apply (u : FVec Ideal S128x128 .f32) (w : FVec Ideal S128x128 .f32) (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (a x : Fin 128) :
    k0_pay26 (F := Ideal) u w v0 v1 v2 v3 v4 v5 v6 v7 (ix2 a x) = u (ix2 a x) + w (ix2 a x) * w (ix2 a x) + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) := by
  pointwise [k0_pay26]

theorem k0_pay27_apply (u : FVec Ideal S128x128 .f32) (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (a x : Fin 128) :
    k0_pay27 (F := Ideal) u v0 v1 v2 v3 v4 v5 v6 v7 (ix2 a x) = u (ix2 a x) + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) := by
  pointwise [k0_pay27]

theorem k0_pay28_apply (v0 : Vec Ideal S128x128 .bf16) (a x : Fin 128) :
    k0_pay28 (F := Ideal) v0 (ix2 a x) = v0 (ix2 a x) * v0 (ix2 a x) := by
  pointwise [k0_pay28]

theorem k0_pay29_apply (u : FVec Ideal S128x128 .f32) (w : FVec Ideal S128x128 .f32) (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (a x : Fin 128) :
    k0_pay29 (F := Ideal) u w v0 v1 v2 v3 v4 v5 v6 v7 (ix2 a x) = u (ix2 a x) + w (ix2 a x) + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) := by
  pointwise [k0_pay29]

theorem k0_pay30_apply (u : FVec Ideal S128x128 .f32) (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (v8 : Vec Ideal S128x128 .bf16) (a x : Fin 128) :
    k0_pay30 (F := Ideal) u v0 v1 v2 v3 v4 v5 v6 v7 v8 (ix2 a x) = u (ix2 a x) + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) + v8 (ix2 a x) * v8 (ix2 a x) := by
  pointwise [k0_pay30]

theorem k0_pay31_apply (u : FVec Ideal S128x128 .f32) (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (a x : Fin 128) :
    k0_pay31 (F := Ideal) u v0 v1 v2 v3 v4 v5 v6 v7 (ix2 a x) = u (ix2 a x) + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) := by
  pointwise [k0_pay31]

theorem k0_pay32_apply (v0 : Vec Ideal S128x128 .bf16) (a x : Fin 128) :
    k0_pay32 (F := Ideal) v0 (ix2 a x) = v0 (ix2 a x) := by
  pointwise [k0_pay32]

theorem k0_pay33_apply (u : FVec Ideal S128x128 .f32) (w : FVec Ideal S128x128 .bf16) (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (a x : Fin 128) :
    k0_pay33 (F := Ideal) u w v0 v1 v2 v3 v4 v5 v6 v7 (ix2 a x) = u (ix2 a x) + w (ix2 a x) * w (ix2 a x) + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) := by
  pointwise [k0_pay33]

theorem k0_pay34_apply (u : FVec Ideal S128x128 .f32) (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (a x : Fin 128) :
    k0_pay34 (F := Ideal) u v0 v1 v2 v3 v4 v5 v6 v7 (ix2 a x) = u (ix2 a x) + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) := by
  pointwise [k0_pay34]

theorem k0_pay35_apply (v0 : Vec Ideal S128x128 .bf16) (a x : Fin 128) :
    k0_pay35 (F := Ideal) v0 (ix2 a x) = v0 (ix2 a x) := by
  pointwise [k0_pay35]

theorem k0_pay36_apply (u : FVec Ideal S128x128 .f32) (w : FVec Ideal S128x128 .f32) (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (a x : Fin 128) :
    k0_pay36 (F := Ideal) u w v0 v1 v2 v3 v4 v5 v6 v7 (ix2 a x) = u (ix2 a x) + w (ix2 a x) * w (ix2 a x) + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) := by
  pointwise [k0_pay36]

theorem k0_pay37_apply (u : FVec Ideal S128x128 .f32) (v0 : Vec Ideal S128x128 .bf16) (v1 : Vec Ideal S128x128 .bf16) (v2 : Vec Ideal S128x128 .bf16) (v3 : Vec Ideal S128x128 .bf16) (v4 : Vec Ideal S128x128 .bf16) (v5 : Vec Ideal S128x128 .bf16) (v6 : Vec Ideal S128x128 .bf16) (v7 : Vec Ideal S128x128 .bf16) (a x : Fin 128) :
    k0_pay37 (F := Ideal) u v0 v1 v2 v3 v4 v5 v6 v7 (ix2 a x) = u (ix2 a x) + v0 (ix2 a x) * v0 (ix2 a x) + v1 (ix2 a x) * v1 (ix2 a x) + v2 (ix2 a x) * v2 (ix2 a x) + v3 (ix2 a x) * v3 (ix2 a x) + v4 (ix2 a x) * v4 (ix2 a x) + v5 (ix2 a x) * v5 (ix2 a x) + v6 (ix2 a x) * v6 (ix2 a x) + v7 (ix2 a x) * v7 (ix2 a x) := by
  pointwise [k0_pay37]

theorem k0_pay38_apply (v0 : Vec Ideal S128x128 .bf16) (a x : Fin 128) :
    k0_pay38 (F := Ideal) v0 (ix2 a x) = v0 (ix2 a x) * v0 (ix2 a x) := by
  pointwise [k0_pay38]

/-- The reciprocal root mean square of a row, from the lanes' sums and the last three groups. -/
theorem k0_pay39_apply (u w : FVec Ideal S128x128 .f32) (v0 v1 : Vec Ideal S128x128 .bf16) (a : Fin 128) :
    k0_pay39 (F := Ideal) u w v0 v1 (ix2 a 0)
      = Ideal.rsqrt (Ideal.div (∑ x : Fin 128, (u (ix2 a x) + w (ix2 a x) + v0 (ix2 a x) * v0 (ix2 a x) + v1 (ix2 a x) * v1 (ix2 a x)))
          (Ideal.ofBits FTy.f32 1178599424#32) + Ideal.ofBits FTy.f32 897988541#32) := by
  pointwise [k0_pay39]

section R
variable (c : Dev nD) (arg1 : Memref sig .tc .vmem S128x12288 .bf16) (harg1 : arg1.IsWhole) (x0 : Vec Ideal S128x12288 .bf16)

/-- A load of 128 columns from column `o`. -/
theorem tile_apply (o : Nat) (inb) (a x : Fin 128) :
    View.readAt (Elt Ideal) arg1.view (Rect.unit (s := S128x12288) ![0, o] ![128, 128] inb).toLoadRect (harg1.unread x0) (ix2 a x)
      = xN x0 a (o + x.val) := by
  have h1 : o + 128 ≤ 12288 := inb 1
  rw [Memref.IsWhole.readAt_unread, unit_idx2 a x a (⟨o + x.val, by omega⟩ : Fin 12288) (Nat.zero_add _).symm rfl]
  unfold xN
  rw [dif_pos (show o + x.val < 12288 by omega)]

theorem r_apply (a x : Fin 128) : kernelRun0_A.sl.r (F := Ideal) c arg1 harg1 x0 (ix2 a x) = sqS x0 a x 8 := by
  unfold kernelRun0_A.sl.r
  rw [k0_pay23_apply]
  simp only [tile_apply, sqS_succ, sqS_zero, Nat.reduceMul]

theorem r_1_apply (a x : Fin 128) : kernelRun0_A.sl.r_1 (F := Ideal) c arg1 harg1 x0 (ix2 a x) = sqS x0 a x 16 := by
  unfold kernelRun0_A.sl.r_1
  rw [k0_pay24_apply, r_apply]
  simp only [tile_apply, sqS_succ, Nat.reduceMul]

theorem r_2_apply (a x : Fin 128) : kernelRun0_A.sl.r_2 (F := Ideal) c arg1 harg1 x0 (ix2 a x) = xN x0 a (2048 + x.val) := by
  unfold kernelRun0_A.sl.r_2
  rw [k0_pay25_apply]
  simp only [tile_apply]

theorem r_3_apply (a x : Fin 128) : kernelRun0_A.sl.r_3 (F := Ideal) c arg1 harg1 x0 (ix2 a x) = sqS x0 a x 25 := by
  unfold kernelRun0_A.sl.r_3
  rw [k0_pay26_apply, r_1_apply, r_2_apply]
  simp only [tile_apply, sqS_succ, Nat.reduceMul]

theorem r_4_apply (a x : Fin 128) : kernelRun0_A.sl.r_4 (F := Ideal) c arg1 harg1 x0 (ix2 a x) = sqS x0 a x 33 := by
  unfold kernelRun0_A.sl.r_4
  rw [k0_pay27_apply, r_3_apply]
  simp only [tile_apply, sqS_succ, Nat.reduceMul]

theorem r_5_apply (a x : Fin 128) : kernelRun0_A.sl.r_5 (F := Ideal) c arg1 harg1 x0 (ix2 a x) = xN x0 a (4224 + x.val) * xN x0 a (4224 + x.val) := by
  unfold kernelRun0_A.sl.r_5
  rw [k0_pay28_apply]
  simp only [tile_apply]

theorem r_6_apply (a x : Fin 128) : kernelRun0_A.sl.r_6 (F := Ideal) c arg1 harg1 x0 (ix2 a x) = sqS x0 a x 42 := by
  unfold kernelRun0_A.sl.r_6
  rw [k0_pay29_apply, r_4_apply, r_5_apply]
  simp only [tile_apply, sqS_succ, Nat.reduceMul]

theorem r_7_apply (a x : Fin 128) : kernelRun0_A.sl.r_7 (F := Ideal) c arg1 harg1 x0 (ix2 a x) = xN x0 a (5376 + x.val) := by
  unfold kernelRun0_A.sl.r_7
  skip
  simp only [tile_apply]

theorem r_8_apply (a x : Fin 128) : kernelRun0_A.sl.r_8 (F := Ideal) c arg1 harg1 x0 (ix2 a x) = sqS x0 a x 51 := by
  unfold kernelRun0_A.sl.r_8
  rw [k0_pay30_apply, r_6_apply, r_7_apply]
  simp only [tile_apply, sqS_succ, Nat.reduceMul]

theorem r_9_apply (a x : Fin 128) : kernelRun0_A.sl.r_9 (F := Ideal) c arg1 harg1 x0 (ix2 a x) = sqS x0 a x 59 := by
  unfold kernelRun0_A.sl.r_9
  rw [k0_pay31_apply, r_8_apply]
  simp only [tile_apply, sqS_succ, Nat.reduceMul]

theorem r_10_apply (a x : Fin 128) : kernelRun0_A.sl.r_10 (F := Ideal) c arg1 harg1 x0 (ix2 a x) = xN x0 a (7552 + x.val) := by
  unfold kernelRun0_A.sl.r_10
  rw [k0_pay32_apply]
  simp only [tile_apply]

theorem r_11_apply (a x : Fin 128) : kernelRun0_A.sl.r_11 (F := Ideal) c arg1 harg1 x0 (ix2 a x) = sqS x0 a x 68 := by
  unfold kernelRun0_A.sl.r_11
  rw [k0_pay33_apply, r_9_apply, r_10_apply]
  simp only [tile_apply, sqS_succ, Nat.reduceMul]

theorem r_12_apply (a x : Fin 128) : kernelRun0_A.sl.r_12 (F := Ideal) c arg1 harg1 x0 (ix2 a x) = sqS x0 a x 76 := by
  unfold kernelRun0_A.sl.r_12
  rw [k0_pay34_apply, r_11_apply]
  simp only [tile_apply, sqS_succ, Nat.reduceMul]

theorem r_13_apply (a x : Fin 128) : kernelRun0_A.sl.r_13 (F := Ideal) c arg1 harg1 x0 (ix2 a x) = xN x0 a (9728 + x.val) := by
  unfold kernelRun0_A.sl.r_13
  rw [k0_pay35_apply]
  simp only [tile_apply]

theorem r_14_apply (a x : Fin 128) : kernelRun0_A.sl.r_14 (F := Ideal) c arg1 harg1 x0 (ix2 a x) = sqS x0 a x 85 := by
  unfold kernelRun0_A.sl.r_14
  rw [k0_pay36_apply, r_12_apply, r_13_apply]
  simp only [tile_apply, sqS_succ, Nat.reduceMul]

theorem r_15_apply (a x : Fin 128) : kernelRun0_A.sl.r_15 (F := Ideal) c arg1 harg1 x0 (ix2 a x) = sqS x0 a x 93 := by
  unfold kernelRun0_A.sl.r_15
  rw [k0_pay37_apply, r_14_apply]
  simp only [tile_apply, sqS_succ, Nat.reduceMul]

theorem r_16_apply (a x : Fin 128) : kernelRun0_A.sl.r_16 (F := Ideal) c arg1 harg1 x0 (ix2 a x) = xN x0 a (11904 + x.val) * xN x0 a (11904 + x.val) := by
  unfold kernelRun0_A.sl.r_16
  rw [k0_pay38_apply]
  simp only [tile_apply]

/-- The lanes' sums add up to the sum over the whole row. -/
theorem sqS_sum (a : Fin 128) : ∑ x : Fin 128, sqS x0 a x 96 = ∑ k : Fin 12288, x0 (ix2 a k) * x0 (ix2 a k) := by
  unfold sqS
  rw [Finset.sum_comm, Finset.sum_range (fun g => ∑ x : Fin 128, xN x0 a (128 * g + x.val) * xN x0 a (128 * g + x.val)),
    ← Fintype.sum_prod_type' (fun (g : Fin 96) (x : Fin 128) => xN x0 a (128 * g.val + x.val) * xN x0 a (128 * g.val + x.val))]
  refine Fintype.sum_equiv (finProdFinEquiv (m := 96) (n := 128)) _ (fun k : Fin 12288 => x0 (ix2 a k) * x0 (ix2 a k)) fun p => ?_
  obtain ⟨g, x⟩ := p
  have e : 128 * g.val + x.val < 12288 := by omega
  have ee : (⟨128 * g.val + x.val, e⟩ : Fin 12288) = finProdFinEquiv (m := 96) (n := 128) (g, x) :=
    Fin.ext (by simp [finProdFinEquiv]; omega)
  dsimp only
  unfold xN
  rw [dif_pos e, ee]

/-- The reciprocal root mean square of row `a`. -/
def nrm (a : Fin 128) : EReal :=
  Ideal.rsqrt (Ideal.div (∑ k : Fin 12288, x0 (ix2 a k) * x0 (ix2 a k)) (Ideal.ofBits FTy.f32 1178599424#32) + Ideal.ofBits FTy.f32 897988541#32)

/-- The reciprocal root mean squares as the column that the loop reads. -/
def nrmC : FVec Ideal S128x1 .f32 := fun y => nrm x0 (y 0)

/-- The kernel's column of reciprocal norms. -/
theorem k0_nrm_eq :
    k0_pay39 (F := Ideal) (kernelRun0_A.sl.r_15 c arg1 harg1 x0) (kernelRun0_A.sl.r_16 c arg1 harg1 x0)
        (View.readAt (Elt Ideal) arg1.view (Rect.unit (s := S128x12288) ![0, 12032] S128x128.size inb_S128x12288_S128x128_0_12032).toLoadRect (harg1.unread x0))
        (View.readAt (Elt Ideal) arg1.view (Rect.unit (s := S128x12288) ![0, 12160] S128x128.size inb_S128x12288_S128x128_0_12160).toLoadRect (harg1.unread x0))
      = nrmC x0 := by
  funext y
  obtain ⟨a, b, rfl⟩ : ∃ (a : Fin 128) (b : Fin 1), y = ix2 a b := ⟨y 0, y 1, eq_ix2 y⟩
  obtain rfl : b = 0 := Subsingleton.elim _ _
  rw [k0_pay39_apply]
  show _ = nrm x0 a
  unfold nrm
  rw [← sqS_sum]
  congr 3
  refine Finset.sum_congr rfl fun x _ => ?_
  rw [r_15_apply, r_16_apply]
  simp only [tile_apply, sqS_succ x0 a x 95, sqS_succ x0 a x 94, sqS_succ x0 a x 93, Nat.reduceMul]

end R

end Cert.KernelIdeal.Val
end
-- ==== Proof.Quant.lean ====
module

public import proofs.«01_k».proof.Proof.QuantSum

@[expose] public section

set_option maxRecDepth 16384

noncomputable section

/-! The quantiser's five outputs of one block of 128 rows. -/

namespace Cert.KernelIdeal.Val

open Idealize.ShloMosaic Idealize.ShloMosaic.TcCoe Idealize.ShloMosaic.Tactic
open Idealize.SL Idealize.SL.Sem
open Cert.KernelIdeal.Gen Cert.Quant

section K0
variable (c : Dev nD) (i : grid0.Coords) (arg1 : Memref sig .tc .vmem S128x12288 .bf16) (harg1 : arg1.IsWhole) (arg2 : Memref sig .tc .vmem S1x12288 .f32) (harg2 : arg2.IsWhole) (arg3 : Memref sig .tc .vmem S128x12288 .bf16) (harg3 : arg3.IsWhole) (arg4 : Memref sig .tc .vmem S128x12288 .bf16) (harg4 : arg4.IsWhole) (arg5 : Memref sig .tc .vmem S128x6144 .i8) (harg5 : arg5.IsWhole) (arg6 : Memref sig .tc .vmem S128x96 .f32) (harg6 : arg6.IsWhole) (arg7 : Memref sig .tc .vmem S128x96 .i8) (harg7 : arg7.IsWhole) (arg8 : Memref sig .tc .vmem S96x128 .f32) (harg8 : arg8.IsWhole) (arg9 : Memref sig .tc .vmem S96x128 .f32) (harg9 : arg9.IsWhole)
  (x0 : Vec Ideal S128x12288 .bf16) (x1 : Vec Ideal S1x12288 .f32)

/-- The loop's stores, all trips together. -/
abbrev pbs := (pb_k0_t1 (F := Ideal) Variants.none c none i arg1 harg1 arg2 harg2 arg3 harg3 arg4 harg4 arg5 harg5 arg6 harg6 arg7 harg7 arg8 harg8 arg9 harg9 (kernelRun0_A.sl.r_15 c arg1 harg1 x0) (kernelRun0_A.sl.r_16 c arg1 harg1 x0) (View.readAt (Elt Ideal) arg1.view (Rect.unit (s := S128x12288) ![0, 12032] S128x128.size inb_S128x12288_S128x128_0_12032).toLoadRect (harg1.unread x0)) (View.readAt (Elt Ideal) arg1.view (Rect.unit (s := S128x12288) ![0, 12160] S128x128.size inb_S128x12288_S128x128_0_12160).toLoadRect (harg1.unread x0)) (harg1.unread x0) (harg2.unread x1) (Scf.trips k0_t1_loop.lb k0_t1_loop.ub k0_t1_loop.st))

/-- The stores of all trips agree with the block's values. -/
theorem pbs_agrees :
    Agrees (Val := Elt Ideal) (e := .bf16) (xnB (nrmC x0) x0 x1) (pbs c i arg1 harg1 arg2 harg2 arg3 harg3 arg4 harg4 arg5 harg5 arg6 harg6 arg7 harg7 arg8 harg8 arg9 harg9 x0 x1).1
      ∧ Agrees (Val := Elt Ideal) (e := .bf16) (aB (nrmC x0) x0 x1) (pbs c i arg1 harg1 arg2 harg2 arg3 harg3 arg4 harg4 arg5 harg5 arg6 harg6 arg7 harg7 arg8 harg8 arg9 harg9 x0 x1).2.1
      ∧ Agrees (Val := Elt Ideal) (e := .i8) (codB (nrmC x0) x0 x1) (pbs c i arg1 harg1 arg2 harg2 arg3 harg3 arg4 harg4 arg5 harg5 arg6 harg6 arg7 harg7 arg8 harg8 arg9 harg9 x0 x1).2.2.1
      ∧ Agrees (Val := Elt Ideal) (e := .f32) (scS (nrmC x0) x0 x1) (pbs c i arg1 harg1 arg2 harg2 arg3 harg3 arg4 harg4 arg5 harg5 arg6 harg6 arg7 harg7 arg8 harg8 arg9 harg9 x0 x1).2.2.2.1
      ∧ Agrees (Val := Elt Ideal) (e := .f32) (zpS (nrmC x0) x0 x1) (pbs c i arg1 harg1 arg2 harg2 arg3 harg3 arg4 harg4 arg5 harg5 arg6 harg6 arg7 harg7 arg8 harg8 arg9 harg9 x0 x1).2.2.2.2 :=
  pb0_agrees Variants.none c none i arg1 harg1 arg2 harg2 arg3 harg3 arg4 harg4 arg5 harg5 arg6 harg6 arg7 harg7 arg8 harg8 arg9 harg9 _ _ _ _ x0 x1 (nrmC x0) (k0_nrm_eq c arg1 harg1 x0) _ (le_refl _)

/-- The stores of all trips write every row of both scratch buffers. -/
theorem pbs_covered (y : S96x128.Idx) :
    Covered (pbs c i arg1 harg1 arg2 harg2 arg3 harg3 arg4 harg4 arg5 harg5 arg6 harg6 arg7 harg7 arg8 harg8 arg9 harg9 x0 x1).2.2.2.1 y ∧ Covered (pbs c i arg1 harg1 arg2 harg2 arg3 harg3 arg4 harg4 arg5 harg5 arg6 harg6 arg7 harg7 arg8 harg8 arg9 harg9 x0 x1).2.2.2.2 y :=
  pb0_covered Variants.none c none i arg1 harg1 arg2 harg2 arg3 harg3 arg4 harg4 arg5 harg5 arg6 harg6 arg7 harg7 arg8 harg8 arg9 harg9 _ _ _ _ x0 x1 _ (le_refl _) y (show (y 0).val < 2 * 48 from (y 0).isLt)

/-- The steps of the block, a row per row of the block. -/
def scB (y : S128x96.Idx) : EReal := gSc (grpB (nrmC x0) x0 x1 (y 0) (y 1))
/-- The zero points of the block, as bytes. -/
def zeB (y : S128x96.Idx) : BitVec 8 := gZero (grpB (nrmC x0) x0 x1 (y 0) (y 1))

/-- The normalised block. -/
theorem out0_2_apply (y : S128x12288.Idx) :
    out0_A_2 (F := Ideal) c i arg1 harg1 arg2 harg2 arg3 harg3 arg4 harg4 arg5 harg5 arg6 harg6 arg7 harg7 arg8 harg8 arg9 harg9 x0 x1 y = xnB (nrmC x0) x0 x1 y := by
  unfold out0_A_2
  refine View.read_writes_apply_of_pieces (Val := Elt Ideal) _ _ (xnB (nrmC x0) x0 x1) _ ?_ y (cover0_A_2 c i arg1 harg1 arg2 harg2 arg3 harg3 arg4 harg4 arg5 harg5 arg6 harg6 arg7 harg7 arg8 harg8 arg9 harg9 x0 x1 _)
  unfold kernelRun0_A
  dsimp only
  exact (pbs_agrees c i arg1 harg1 arg2 harg2 arg3 harg3 arg4 harg4 arg5 harg5 arg6 harg6 arg7 harg7 arg8 harg8 arg9 harg9 x0 x1).1

/-- The dequantised block. -/
theorem out0_3_apply (y : S128x12288.Idx) :
    out0_A_3 (F := Ideal) c i arg1 harg1 arg2 harg2 arg3 harg3 arg4 harg4 arg5 harg5 arg6 harg6 arg7 harg7 arg8 harg8 arg9 harg9 x0 x1 y = aB (nrmC x0) x0 x1 y := by
  unfold out0_A_3
  refine View.read_writes_apply_of_pieces (Val := Elt Ideal) _ _ (aB (nrmC x0) x0 x1) _ ?_ y (cover0_A_3 c i arg1 harg1 arg2 harg2 arg3 harg3 arg4 harg4 arg5 harg5 arg6 harg6 arg7 harg7 arg8 harg8 arg9 harg9 x0 x1 _)
  unfold kernelRun0_A
  dsimp only
  exact (pbs_agrees c i arg1 harg1 arg2 harg2 arg3 harg3 arg4 harg4 arg5 harg5 arg6 harg6 arg7 harg7 arg8 harg8 arg9 harg9 x0 x1).2.1

/-- The packed codes block. -/
theorem out0_4_apply (y : S128x6144.Idx) :
    out0_A_4 (F := Ideal) c i arg1 harg1 arg2 harg2 arg3 harg3 arg4 harg4 arg5 harg5 arg6 harg6 arg7 harg7 arg8 harg8 arg9 harg9 x0 x1 y = codB (nrmC x0) x0 x1 y := by
  unfold out0_A_4
  refine View.read_writes_apply_of_pieces (Val := Elt Ideal) _ _ (codB (nrmC x0) x0 x1) _ ?_ y (cover0_A_4 c i arg1 harg1 arg2 harg2 arg3 harg3 arg4 harg4 arg5 harg5 arg6 harg6 arg7 harg7 arg8 harg8 arg9 harg9 x0 x1 _)
  unfold kernelRun0_A
  dsimp only
  exact (pbs_agrees c i arg1 harg1 arg2 harg2 arg3 harg3 arg4 harg4 arg5 harg5 arg6 harg6 arg7 harg7 arg8 harg8 arg9 harg9 x0 x1).2.2.1

/-- The block's steps. -/
theorem out0_5_apply (y : S128x96.Idx) :
    out0_A_5 (F := Ideal) c i arg1 harg1 arg2 harg2 arg3 harg3 arg4 harg4 arg5 harg5 arg6 harg6 arg7 harg7 arg8 harg8 arg9 harg9 x0 x1 y = scB x0 x1 y := by
  unfold out0_A_5
  refine View.read_writes_apply_of_pieces (Val := Elt Ideal) _ _ (scB x0 x1) _ ?_ y (cover0_A_5 c i arg1 harg1 arg2 harg2 arg3 harg3 arg4 harg4 arg5 harg5 arg6 harg6 arg7 harg7 arg8 harg8 arg9 harg9 x0 x1 _)
  show Agrees (Val := Elt Ideal) (e := .f32) (scB x0 x1) _
  unfold kernelRun0_A
  dsimp only
  refine Agrees.cons (fun x => ?_) (Agrees.nil _)
  obtain ⟨a, b, rfl⟩ : ∃ (a : Fin 128) (b : Fin 96), x = ix2 a b := ⟨x 0, x 1, eq_ix2 x⟩
  dsimp only
  rw [k0_pay44_apply, unit_emb2 a b a b (Nat.zero_add _).symm (Nat.zero_add _).symm]
  unfold View.readCov
  rw [View.readAt_apply, unit_idx2 b a b a (Nat.zero_add _).symm (Nat.zero_add _).symm]
  have h := (pbs_agrees c i arg1 harg1 arg2 harg2 arg3 harg3 arg4 harg4 arg5 harg5 arg6 harg6 arg7 harg7 arg8 harg8 arg9 harg9 x0 x1).2.2.2.1.read (pbs_covered c i arg1 harg1 arg2 harg2 arg3 harg3 arg4 harg4 arg5 harg5 arg6 harg6 arg7 harg7 arg8 harg8 arg9 harg9 x0 x1 (ix2 b a)).1 arg8.view arg8.view.junk
  exact h

/-- The block's zero points. -/
theorem out0_6_apply (y : S128x96.Idx) :
    out0_A_6 (F := Ideal) c i arg1 harg1 arg2 harg2 arg3 harg3 arg4 harg4 arg5 harg5 arg6 harg6 arg7 harg7 arg8 harg8 arg9 harg9 x0 x1 y = zeB x0 x1 y := by
  unfold out0_A_6
  refine View.read_writes_apply_of_pieces (Val := Elt Ideal) _ _ (zeB x0 x1) _ ?_ y (cover0_A_6 c i arg1 harg1 arg2 harg2 arg3 harg3 arg4 harg4 arg5 harg5 arg6 harg6 arg7 harg7 arg8 harg8 arg9 harg9 x0 x1 _)
  show Agrees (Val := Elt Ideal) (e := .i8) (zeB x0 x1) _
  unfold kernelRun0_A
  dsimp only
  refine Agrees.cons (fun x => ?_) (Agrees.nil _)
  obtain ⟨a, b, rfl⟩ : ∃ (a : Fin 128) (b : Fin 96), x = ix2 a b := ⟨x 0, x 1, eq_ix2 x⟩
  dsimp only
  rw [k0_pay45_apply, unit_emb2 a b a b (Nat.zero_add _).symm (Nat.zero_add _).symm]
  unfold View.readCov
  rw [View.readAt_apply, unit_idx2 b a b a (Nat.zero_add _).symm (Nat.zero_add _).symm]
  have h := (pbs_agrees c i arg1 harg1 arg2 harg2 arg3 harg3 arg4 harg4 arg5 harg5 arg6 harg6 arg7 harg7 arg8 harg8 arg9 harg9 x0 x1).2.2.2.2.read (pbs_covered c i arg1 harg1 arg2 harg2 arg3 harg3 arg4 harg4 arg5 harg5 arg6 harg6 arg7 harg7 arg8 harg8 arg9 harg9 x0 x1 (ix2 b a)).2 arg9.view arg9.view.junk
  exact congrArg (fun u => (Ideal.fptosi 32 u).setWidth 8) h

end K0

end Cert.KernelIdeal.Val
end
-- ==== Proof.Spec.lean ====
module

public import proofs.«01_k».proof.Proof.Scal
public import Idealize.ShloMosaic.Lib.ValueIdx

@[expose] public section

set_option maxRecDepth 16384

noncomputable section

/-! What the problem computes of one row of the input, and of one column of packed weights. -/

namespace Cert.Quant

open Idealize.ShloMosaic

/-- The four-bit half `p` of a byte (0 the low one), as a signed number. -/
def nib (b : BitVec 8) (p : Nat) : Int := (b.extractLsb' (4 * p) 4).toInt

section Row
variable (v w : Fin 12288 → EReal)
/-- The reciprocal root mean square of a row. -/
def rowNrm : EReal :=
  Ideal.rsqrt (Ideal.div (∑ k : Fin 12288, v k * v k) (Ideal.ofBits FTy.f32 1178599424#32) + Ideal.ofBits FTy.f32 897988541#32)
/-- The normalised row. -/
def rowXn (k : Fin 12288) : EReal := v k * rowNrm v * w k
/-- Group `g` of the normalised row. -/
def rowGrp (g : Fin 96) : Fin 128 → EReal := fun j => rowXn v w ⟨128 * g.val + j.val, by omega⟩
/-- The row quantised and dequantised. -/
def rowDq (k : Fin 12288) : EReal := gA (rowGrp v w ⟨k.val / 128, by omega⟩) (rowXn v w k)
/-- The row's packed codes. -/
def rowCod (c : Fin 6144) : BitVec 8 :=
  pack (gCode (rowGrp v w ⟨c.val / 64, by omega⟩) (rowGrp v w ⟨c.val / 64, by omega⟩ ⟨2 * (c.val % 64), by omega⟩))
    (gCode (rowGrp v w ⟨c.val / 64, by omega⟩) (rowGrp v w ⟨c.val / 64, by omega⟩ ⟨2 * (c.val % 64) + 1, by omega⟩))
/-- The row's steps. -/
def rowSc (g : Fin 96) : EReal := gSc (rowGrp v w g)
/-- The row's zero points as bytes. -/
def rowZe (g : Fin 96) : BitVec 8 := gZero (rowGrp v w g)
/-- A column of the dequantised weight, from a column of packed bytes and one of steps. -/
def colW (p : Fin 6144 → BitVec 8) (s : Fin 96 → EReal) (k : Fin 12288) : EReal :=
  ((nib (p ⟨k.val / 2, by omega⟩) (k.val % 2) : ℝ) : EReal) * s ⟨k.val / 128, by omega⟩
/-- A quantised row times a dequantised column. -/
def rowDot (p : Fin 6144 → BitVec 8) (s : Fin 96 → EReal) : EReal := ∑ k : Fin 12288, rowDq v w k * colW p s k
end Row

/-- Row `s` of batch `b` of the input. -/
def inRow (x : (⟨3, ![2, 640, 12288]⟩ : Shape).Idx → EReal) (b : Fin 2) (s : Fin 640) : Fin 12288 → EReal := fun k => x (ix3 b s k)
/-- The weight of the norm. -/
def inW (w : (⟨1, ![12288]⟩ : Shape).Idx → EReal) : Fin 12288 → EReal := fun k => w (ix1 k)

end Cert.Quant

end
-- ==== Proof.Mm.lean ====
module

public import proofs.«01_k».proof.Proof.Base
public import proofs.«01_k».proof.Proof.Spec
public import Idealize.ShloMosaic.Lib.WholeRead

@[expose] public section

set_option maxRecDepth 16384

noncomputable section

/-! What the matmul kernel leaves in its output block, at exact values: the block's rows times the dequantised weight. -/

namespace Cert.KernelIdeal.Val

open Idealize.ShloMosaic Idealize.ShloMosaic.TcCoe Idealize.ShloMosaic.Tactic
open Idealize.SL Idealize.SL.Sem
open Cert.KernelIdeal.Gen Cert.Quant

/-- The word in which the kernel places both halves of a byte, each widened with its sign to sixteen bits. -/
def nibWord (b : BitVec 8) : BitVec 32 :=
  IntOp.ori (IntOp.andi (IntOp.subi (IntOp.xori (IntOp.andi (b.setWidth 32) 15#32) 8#32) 8#32) 65535#32)
    (IntOp.shli .vector (IntOp.subi (IntOp.xori (IntOp.shrsi .vector (b.setWidth 32) 4#32) 8#32) 8#32) 16#32)

theorem nibWord_half : ∀ (b : BitVec 8) (p : Fin 2), ((nibWord b).extractLsb' (16 * p.val) 16).toInt = nib b p.val := by
  decide +kernel

/-- The dequantised weight block: half `k % 2` of byte `k / 2`, times the scale of group `k / 128`. -/
def wdB (x1 : Vec Ideal S6144x256 .i8) (x2 : Vec Ideal S96x256 .f32) (y : S12288x256.Idx) : EReal :=
  ((nib (x1 (ix2 ⟨(y 0).val / 2, by have := (y 0).isLt; change _ < 12288 at this; omega⟩ (y 1))) ((y 0).val % 2) : ℝ) : EReal)
    * x2 (ix2 ⟨(y 0).val / 128, by have := (y 0).isLt; change _ < 12288 at this; omega⟩ (y 1))

theorem k1_pay1_apply (u : Vec Ideal S64x256 .i8) (v : Vec Ideal S1x256 .f32) (a : Fin 128) (b : Fin 256) :
    k1_pay1 (F := Ideal) u v (ix2 a b)
      = ((nib (u (ix2 ⟨a.val / 2, by omega⟩ b)) (a.val % 2) : ℝ) : EReal) * v (ix2 0 b) := by
  pointwise [k1_pay1]
  rw [bitcast_32_16_ix2 _ _ a b ⟨a.val / 2, by omega⟩ rfl]
  pointwise
  rw [← nibWord_half (u (ix2 ⟨a.val / 2, by omega⟩ b)) ⟨a.val % 2, by omega⟩]
  rfl

theorem k1_pay2_apply (u : Vec Ideal S1280x12288 .bf16) (v : Vec Ideal S12288x256 .bf16) (a : Fin 1280) (b : Fin 256) :
    k1_pay2 (F := Ideal) u v (ix2 a b) = ∑ x, u (ix2 a x) * v (ix2 x b) := by
  pointwise [k1_pay2]

theorem k1_off1_eq : ∀ k : Fin k1_t1_loop.trips, k1_off1 k = ![64 * k.val, 0] := by decide +kernel
theorem k1_off2_eq : ∀ k : Fin k1_t1_loop.trips, k1_off2 k = ![k.val, 0] := by decide +kernel
theorem k1_off3_eq : ∀ k : Fin k1_t1_loop.trips, k1_off3 k = ![128 * k.val, 0] := by decide +kernel

section K1
variable (𝒱 : Variants) (c : Dev nD) (bd : Option 𝒱.V) (i : grid1.Coords) (arg1 : Memref sig .tc .vmem S1280x12288 .bf16) (harg1 : arg1.IsWhole) (arg2 : Memref sig .tc .vmem S6144x256 .i8) (harg2 : arg2.IsWhole) (arg3 : Memref sig .tc .vmem S96x256 .f32) (harg3 : arg3.IsWhole) (arg4 : Memref sig .tc .vmem S1280x256 .bf16) (harg4 : arg4.IsWhole) (arg5 : Memref sig .tc .vmem S12288x256 .bf16) (harg5 : arg5.IsWhole)
  (x0 : Vec Ideal S1280x12288 .bf16) (x1 : Vec Ideal S6144x256 .i8) (x2 : Vec Ideal S96x256 .f32)

/-- Trip `k`'s store of the weight agrees with the dequantised block. -/
theorem trip1_agrees (k : Fin k1_t1_loop.trips) :
    Agrees (Val := Elt Ideal) (e := .bf16) (wdB x1 x2)
      (tripL_k1_t1 (F := Ideal) 𝒱 c bd i arg1 harg1 arg2 harg2 arg3 harg3 arg4 harg4 arg5 harg5 (harg2.unread x1) (harg3.unread x2) k) := by
  have hk : k.val < 96 := k.isLt
  unfold tripL_k1_t1 trip_k1_t1
  dsimp only
  refine Agrees.cons (fun x => ?_) (Agrees.nil _)
  obtain ⟨a, b, rfl⟩ : ∃ (a : Fin 128) (b : Fin 256), x = ix2 a b := ⟨x 0, x 1, eq_ix2 x⟩
  dsimp only
  rw [k1_pay1_apply]
  rw [Memref.IsWhole.readAt_unread, Memref.IsWhole.readAt_unread]
  rw [unit_emb2 a b (⟨128 * k.val + a.val, by omega⟩ : Fin 12288) b (by rw [k1_off3_eq]; rfl) (by rw [k1_off3_eq]; exact (Nat.zero_add _).symm)]
  rw [unit_idx2 _ b (⟨64 * k.val + a.val / 2, by omega⟩ : Fin 6144) b (by rw [k1_off1_eq]; rfl) (by rw [k1_off1_eq]; exact (Nat.zero_add _).symm)]
  rw [unit_idx2 0 b (⟨k.val, by omega⟩ : Fin 96) b (by rw [k1_off2_eq]; rfl) (by rw [k1_off2_eq]; exact (Nat.zero_add _).symm)]
  unfold wdB
  have e1 : (128 * k.val + a.val) / 2 = 64 * k.val + a.val / 2 := by omega
  have e2 : (128 * k.val + a.val) % 2 = a.val % 2 := by omega
  have e3 : (128 * k.val + a.val) / 128 = k.val := by omega
  simp only [ix2_0, ix2_1, e1, e2, e3]

theorem pb1_agrees (n : Nat) (hn : n ≤ k1_t1_loop.trips) :
    Agrees (Val := Elt Ideal) (e := .bf16) (wdB x1 x2)
      (pb_k1_t1 (F := Ideal) 𝒱 c bd i arg1 harg1 arg2 harg2 arg3 harg3 arg4 harg4 arg5 harg5 (harg2.unread x1) (harg3.unread x2) n) := by
  induction n with
  | zero => exact Agrees.nil _
  | succ n ih =>
    have e := pb_k1_t1_succ (F := Ideal) 𝒱 c bd i arg1 harg1 arg2 harg2 arg3 harg3 arg4 harg4 arg5 harg5 (harg2.unread x1) (harg3.unread x2) ⟨n, hn⟩
    dsimp only at e
    rw [e]
    exact Agrees.append (trip1_agrees 𝒱 c bd i arg1 harg1 arg2 harg2 arg3 harg3 arg4 harg4 arg5 harg5 x1 x2 ⟨n, hn⟩) (ih (by omega))

theorem pb1_covered (n : Nat) (hn : n ≤ k1_t1_loop.trips) (y : S12288x256.Idx) (hy : (y 0).val < 128 * n) :
    Covered (pb_k1_t1 (F := Ideal) 𝒱 c bd i arg1 harg1 arg2 harg2 arg3 harg3 arg4 harg4 arg5 harg5 (harg2.unread x1) (harg3.unread x2) n) y := by
  induction n with
  | zero => omega
  | succ n ih =>
    have e := pb_k1_t1_succ (F := Ideal) 𝒱 c bd i arg1 harg1 arg2 harg2 arg3 harg3 arg4 harg4 arg5 harg5 (harg2.unread x1) (harg3.unread x2) ⟨n, hn⟩
    dsimp only at e
    rw [e]
    by_cases hlt : (y 0).val < 128 * n
    · exact Covered.right _ (ih (by omega) hlt)
    · refine Covered.left ?_ _
      unfold tripL_k1_t1 trip_k1_t1
      dsimp only
      have h1 := (y 1).isLt
      change (y 1).val < 256 at h1
      refine Covered.head ?_
      rw [Rect.mem_set_unit]
      exact bounds2 y (128 * n) 0 (k1_off3_eq ⟨n, hn⟩) ⟨by omega, by omega⟩ ⟨Nat.zero_le _, by omega⟩

/-- The matmul kernel's output block: its first operand times the dequantised weight. -/
def yB (x0 : Vec Ideal S1280x12288 .bf16) (x1 : Vec Ideal S6144x256 .i8) (x2 : Vec Ideal S96x256 .f32) (y : S1280x256.Idx) : EReal :=
  ∑ k : Fin 12288, x0 (ix2 (y 0) k) * wdB x1 x2 (ix2 k (y 1))

/-- The matmul kernel's output block at `(a, b)`: row `a` of its first operand times column `b` of the dequantised weight. -/
theorem out1_apply (a : Fin 1280) (b : Fin 256) :
    out1_A_3 (F := Ideal) c i arg1 harg1 arg2 harg2 arg3 harg3 arg4 harg4 arg5 harg5 x0 x1 x2 (ix2 a b)
      = ∑ k : Fin 12288, x0 (ix2 a k) * wdB x1 x2 (ix2 k b) := by
  unfold out1_A_3
  refine (View.read_writes_apply_of_pieces (Val := Elt Ideal) _ _ (yB x0 x1 x2) _ ?_ (ix2 a b) (cover1_A_3 c i arg1 harg1 arg2 harg2 arg3 harg3 arg4 harg4 arg5 harg5 x0 x1 x2 _))
  show Agrees (Val := Elt Ideal) (e := .bf16) (yB x0 x1 x2) _
  unfold kernelRun1_A
  dsimp only
  refine Agrees.cons (fun x => ?_) (Agrees.nil _)
  obtain ⟨a, b, rfl⟩ : ∃ (a : Fin 1280) (b : Fin 256), x = ix2 a b := ⟨x 0, x 1, eq_ix2 x⟩
  dsimp only
  rw [k1_pay2_apply]
  rw [unit_emb2 a b a b (Nat.zero_add _).symm (Nat.zero_add _).symm]
  unfold yB
  refine Finset.sum_congr rfl fun k _ => ?_
  rw [Memref.IsWhole.readAt_unread, unit_idx2 a k a k (Nat.zero_add _).symm (Nat.zero_add _).symm]
  congr 1
  unfold View.readCov
  rw [View.readAt_apply, unit_idx2 k b k b (Nat.zero_add _).symm (Nat.zero_add _).symm]
  exact (pb1_agrees Variants.none c none i arg1 harg1 arg2 harg2 arg3 harg3 arg4 harg4 arg5 harg5 x1 x2 _ (le_refl _)).read
    (pb1_covered Variants.none c none i arg1 harg1 arg2 harg2 arg3 harg3 arg4 harg4 arg5 harg5 x1 x2 _ (le_refl _) (ix2 k b) (show k.val < 128 * 96 from k.isLt)) _ _
end K1

end Cert.KernelIdeal.Val
end
-- ==== Proof.Arr.lean ====
module

public import proofs.«01_k».proof.Proof.Quant
public import proofs.«01_k».proof.Proof.Mm
public import proofs.«01_k».proof.Proof.Spec
public import Idealize.ShloMosaic.Lib.Pipeline.ValueKit

@[expose] public section

set_option maxRecDepth 16384

noncomputable section

/-! What the two pipelines leave in their arrays, in terms of a row of the input and a column of the weights. -/

namespace Cert.KernelIdeal.Val

open Idealize.ShloMosaic Idealize.ShloMosaic.TcCoe Idealize.ShloMosaic.Tactic
open Idealize.SL Idealize.SL.Sem
open Cert.KernelIdeal.Gen Cert.Quant

variable (V : (c : Dev nD) → (b : Ref sig .tc) → Buf (Elt Ideal) ((c : Thread nD τ).loc b)) (c : Dev nD)

/-- The quantiser's input, as a matrix. -/
abbrev X0 : S1280x12288.Idx → EReal := V c main_v0
/-- The quantiser's weight of the norm, as a row. -/
abbrev X1 : S1x12288.Idx → EReal := V c main_v1
/-- Row `a` of the input. -/
abbrev vRow (a : Fin 1280) : Fin 12288 → EReal := fun k => X0 V c (ix2 a k)
abbrev wRow : Fin 12288 → EReal := fun k => X1 V c (ix2 0 k)

/-- The row of the array that row `a` of block `t` is. -/
def rowAt (t : Fin cfg0.N) (a : Fin 128) : Fin 1280 := ⟨128 * t.val + a.val, by have : t.val < 10 := t.isLt; omega⟩

theorem idx0_0 : ∀ t : Fin cfg0.N, win0_0.index t 0 = t.val ∧ win0_0.index t 1 = 0 := by decide +kernel
theorem idx0_1 : ∀ t : Fin cfg0.N, win0_1.index t 0 = 0 ∧ win0_1.index t 1 = 0 := by decide +kernel
theorem idx0_2 : ∀ t : Fin cfg0.N, win0_2.index t 0 = t.val ∧ win0_2.index t 1 = 0 := by decide +kernel
theorem idx0_3 : ∀ t : Fin cfg0.N, win0_3.index t 0 = t.val ∧ win0_3.index t 1 = 0 := by decide +kernel
theorem idx0_4 : ∀ t : Fin cfg0.N, win0_4.index t 0 = t.val ∧ win0_4.index t 1 = 0 := by decide +kernel
theorem idx0_5 : ∀ t : Fin cfg0.N, win0_5.index t 0 = t.val ∧ win0_5.index t 1 = 0 := by decide +kernel
theorem idx0_6 : ∀ t : Fin cfg0.N, win0_6.index t 0 = t.val ∧ win0_6.index t 1 = 0 := by decide +kernel

theorem iblk0_0 (t : Fin cfg0.N) (a : Fin 128) (k : Fin 12288) :
    iblk0 (F := Ideal) V c 0 t (ix2 a k) = vRow V c (rowAt t a) k := by
  blk_ext [iblk0, rowAt, (idx0_0 t).1, (idx0_0 t).2]

theorem iblk0_1 (t : Fin cfg0.N) (k : Fin 12288) :
    iblk0 (F := Ideal) V c 1 t (ix2 0 k) = wRow V c k := by
  blk_ext [iblk0, (idx0_1 t).1, (idx0_1 t).2]

/-! A block's values, row by row. -/
section Blk
variable (x0 : Vec Ideal S128x12288 .bf16) (x1 : Vec Ideal S1x12288 .f32) (a : Fin 128) (v w : Fin 12288 → EReal)
  (hv : ∀ k, x0 (ix2 a k) = v k) (hw : ∀ k, x1 (ix2 0 k) = w k)
include hv hw

theorem xnB_row (k : Fin 12288) : xnB (nrmC x0) x0 x1 (ix2 a k) = rowXn v w k := by
  obtain rfl : (fun k => x0 (ix2 a k)) = v := funext hv
  obtain rfl : (fun k => x1 (ix2 0 k)) = w := funext hw
  rfl
theorem grpB_row (g : Fin 96) : grpB (nrmC x0) x0 x1 a g = rowGrp v w g := funext fun j => xnB_row x0 x1 a v w hv hw _
theorem aB_row (k : Fin 12288) : aB (nrmC x0) x0 x1 (ix2 a k) = rowDq v w k := by
  unfold aB rowDq
  simp only [ix2_0, ix2_1]
  rw [grpB_row x0 x1 a v w hv hw, xnB_row x0 x1 a v w hv hw]
theorem codB_row (k : Fin 6144) : codB (nrmC x0) x0 x1 (ix2 a k) = rowCod v w k := by
  unfold codB rowCod
  simp only [ix2_0, ix2_1]
  rw [grpB_row x0 x1 a v w hv hw]
theorem scB_row (g : Fin 96) : scB x0 x1 (ix2 a g) = rowSc v w g := by
  unfold scB rowSc
  simp only [ix2_0, ix2_1]
  rw [grpB_row x0 x1 a v w hv hw]
theorem zeB_row (g : Fin 96) : zeB x0 x1 (ix2 a g) = rowZe v w g := by
  unfold zeB rowZe
  simp only [ix2_0, ix2_1]
  rw [grpB_row x0 x1 a v w hv hw]
end Blk

theorem emb0_2 (t : Fin cfg0.N) (a : Fin 128) (k : Fin 12288) : (win0_2.blk t).view.emb (ix2 a k) = ix2 (rowAt t a) k := by
  blk_ext [rowAt, (idx0_2 t).1, (idx0_2 t).2]

/-- After the quantiser, its first output is the normalised input. -/
theorem arr0_2 : (dat0 (F := Ideal) V c).arrAt 2 cfg0.N = fun y : S1280x12288.Idx => rowXn (vRow V c (y 0)) (wRow V c) (y 1) := by
  refine (dat0 (F := Ideal) V c).arrAt_eq_of_covers 2 _ (by decide +kernel) fun t hf y => ?_
  obtain ⟨a, k, rfl⟩ : ∃ (a : Fin 128) (k : Fin 12288), y = ix2 a k := ⟨y 0, y 1, eq_ix2 y⟩
  blk_simp
  rw [after0_2, emb0_2]
  unfold outsAt0
  dsimp only
  rw [out0_2_apply]
  exact xnB_row _ _ a _ _ (fun k => iblk0_0 V c t a k) (fun k => iblk0_1 V c t k) k

theorem emb0_3 (t : Fin cfg0.N) (a : Fin 128) (k : Fin 12288) : (win0_3.blk t).view.emb (ix2 a k) = ix2 (rowAt t a) k := by
  blk_ext [rowAt, (idx0_3 t).1, (idx0_3 t).2]

/-- After the quantiser, its second output is the input quantised and dequantised. -/
theorem arr0_3 : (dat0 (F := Ideal) V c).arrAt 3 cfg0.N = fun y : S1280x12288.Idx => rowDq (vRow V c (y 0)) (wRow V c) (y 1) := by
  refine (dat0 (F := Ideal) V c).arrAt_eq_of_covers 3 _ (by decide +kernel) fun t hf y => ?_
  obtain ⟨a, k, rfl⟩ : ∃ (a : Fin 128) (k : Fin 12288), y = ix2 a k := ⟨y 0, y 1, eq_ix2 y⟩
  blk_simp
  rw [after0_3, emb0_3]
  unfold outsAt0
  dsimp only
  rw [out0_3_apply]
  exact aB_row _ _ a _ _ (fun k => iblk0_0 V c t a k) (fun k => iblk0_1 V c t k) k

theorem emb0_4 (t : Fin cfg0.N) (a : Fin 128) (k : Fin 6144) : (win0_4.blk t).view.emb (ix2 a k) = ix2 (rowAt t a) k := by
  blk_ext [rowAt, (idx0_4 t).1, (idx0_4 t).2]

/-- After the quantiser, its third output is the packed codes. -/
theorem arr0_4 : (dat0 (F := Ideal) V c).arrAt 4 cfg0.N = fun y : S1280x6144.Idx => rowCod (vRow V c (y 0)) (wRow V c) (y 1) := by
  refine (dat0 (F := Ideal) V c).arrAt_eq_of_covers 4 _ (by decide +kernel) fun t hf y => ?_
  obtain ⟨a, k, rfl⟩ : ∃ (a : Fin 128) (k : Fin 6144), y = ix2 a k := ⟨y 0, y 1, eq_ix2 y⟩
  blk_simp
  rw [after0_4, emb0_4]
  unfold outsAt0
  dsimp only
  rw [out0_4_apply]
  exact codB_row _ _ a _ _ (fun k => iblk0_0 V c t a k) (fun k => iblk0_1 V c t k) k

theorem emb0_5 (t : Fin cfg0.N) (a : Fin 128) (k : Fin 96) : (win0_5.blk t).view.emb (ix2 a k) = ix2 (rowAt t a) k := by
  blk_ext [rowAt, (idx0_5 t).1, (idx0_5 t).2]

/-- After the quantiser, its fourth output is the steps. -/
theorem arr0_5 : (dat0 (F := Ideal) V c).arrAt 5 cfg0.N = fun y : S1280x96.Idx => rowSc (vRow V c (y 0)) (wRow V c) (y 1) := by
  refine (dat0 (F := Ideal) V c).arrAt_eq_of_covers 5 _ (by decide +kernel) fun t hf y => ?_
  obtain ⟨a, k, rfl⟩ : ∃ (a : Fin 128) (k : Fin 96), y = ix2 a k := ⟨y 0, y 1, eq_ix2 y⟩
  blk_simp
  rw [after0_5, emb0_5]
  unfold outsAt0
  dsimp only
  rw [out0_5_apply]
  exact scB_row _ _ a _ _ (fun k => iblk0_0 V c t a k) (fun k => iblk0_1 V c t k) k

theorem emb0_6 (t : Fin cfg0.N) (a : Fin 128) (k : Fin 96) : (win0_6.blk t).view.emb (ix2 a k) = ix2 (rowAt t a) k := by
  blk_ext [rowAt, (idx0_6 t).1, (idx0_6 t).2]

/-- After the quantiser, its fifth output is the zero points. -/
theorem arr0_6 : (dat0 (F := Ideal) V c).arrAt 6 cfg0.N = fun y : S1280x96.Idx => rowZe (vRow V c (y 0)) (wRow V c) (y 1) := by
  refine (dat0 (F := Ideal) V c).arrAt_eq_of_covers 6 _ (by decide +kernel) fun t hf y => ?_
  obtain ⟨a, k, rfl⟩ : ∃ (a : Fin 128) (k : Fin 96), y = ix2 a k := ⟨y 0, y 1, eq_ix2 y⟩
  blk_simp
  rw [after0_6, emb0_6]
  unfold outsAt0
  dsimp only
  rw [out0_6_apply]
  exact zeB_row _ _ a _ _ (fun k => iblk0_0 V c t a k) (fun k => iblk0_1 V c t k) k

/-! The product's pipeline. -/

/-- The product's first operand, as a matrix. -/
abbrev A1 : S1280x12288.Idx → EReal := V c main_v2_1
/-- The packed weights. -/
abbrev P1 : S6144x4096.Idx → BitVec 8 := V c main_arg2
/-- The weights' steps. -/
abbrev S1 : S96x4096.Idx → EReal := V c main_arg3

/-- The column of the array that column `b` of block `t` is. -/
def colAt (t : Fin cfg1.N) (b : Fin 256) : Fin 4096 := ⟨256 * t.val + b.val, by have : t.val < 16 := t.isLt; omega⟩

theorem idx1_0 : ∀ t : Fin cfg1.N, win1_0.index t 0 = 0 ∧ win1_0.index t 1 = 0 := by decide +kernel
theorem idx1_1 : ∀ t : Fin cfg1.N, win1_1.index t 0 = 0 ∧ win1_1.index t 1 = t.val := by decide +kernel
theorem idx1_2 : ∀ t : Fin cfg1.N, win1_2.index t 0 = 0 ∧ win1_2.index t 1 = t.val := by decide +kernel
theorem idx1_3 : ∀ t : Fin cfg1.N, win1_3.index t 0 = 0 ∧ win1_3.index t 1 = t.val := by decide +kernel

theorem iblk1_0 (t : Fin cfg1.N) (a : Fin 1280) (k : Fin 12288) :
    iblk1 (F := Ideal) V c 0 t (ix2 a k) = A1 V c (ix2 a k) := by
  blk_ext [iblk1, (idx1_0 t).1, (idx1_0 t).2]
theorem iblk1_1 (t : Fin cfg1.N) (p : Fin 6144) (b : Fin 256) :
    iblk1 (F := Ideal) V c 1 t (ix2 p b) = P1 V c (ix2 p (colAt t b)) := by
  blk_ext [iblk1, colAt, (idx1_1 t).1, (idx1_1 t).2]
theorem iblk1_2 (t : Fin cfg1.N) (g : Fin 96) (b : Fin 256) :
    iblk1 (F := Ideal) V c 2 t (ix2 g b) = S1 V c (ix2 g (colAt t b)) := by
  blk_ext [iblk1, colAt, (idx1_2 t).1, (idx1_2 t).2]

theorem emb1_3 (t : Fin cfg1.N) (a : Fin 1280) (b : Fin 256) : (win1_3.blk t).view.emb (ix2 a b) = ix2 a (colAt t b) := by
  blk_ext [colAt, (idx1_3 t).1, (idx1_3 t).2]

theorem wdB_col (x1 : Vec Ideal S6144x256 .i8) (x2 : Vec Ideal S96x256 .f32) (b : Fin 256) (p : Fin 6144 → BitVec 8) (s : Fin 96 → EReal)
    (hp : ∀ k, x1 (ix2 k b) = p k) (hs : ∀ g, x2 (ix2 g b) = s g) (k : Fin 12288) : wdB x1 x2 (ix2 k b) = colW p s k := by
  obtain rfl : (fun k => x1 (ix2 k b)) = p := funext hp
  obtain rfl : (fun g => x2 (ix2 g b)) = s := funext hs
  rfl

/-- The first operand times the dequantised weights. -/
def prodY (y : S1280x4096.Idx) : EReal :=
  ∑ k : Fin 12288, A1 V c (ix2 (y 0) k) * colW (fun p => P1 V c (ix2 p (y 1))) (fun g => S1 V c (ix2 g (y 1))) k

theorem outsAt1_apply (t : Fin cfg1.N) (a : Fin 1280) (b : Fin 256) :
    outsAt1 (F := Ideal) V c t (ix2 a b) = prodY V c (ix2 a (colAt t b)) := by
  unfold outsAt1
  rw [out1_apply]
  refine Finset.sum_congr rfl fun k _ => ?_
  rw [iblk1_0 V c t a k, wdB_col _ _ b _ _ (fun k => iblk1_1 V c t k b) (fun g => iblk1_2 V c t g b) k]
  rfl

/-- After the product, its output is the first operand times the dequantised weights. -/
theorem arr1_3 : (dat1 (F := Ideal) V c).arrAt 3 cfg1.N = prodY V c := by
  refine (dat1 (F := Ideal) V c).arrAt_eq_of_covers 3 _ (by decide +kernel) fun t hf y => ?_
  obtain ⟨a, b, rfl⟩ : ∃ (a : Fin 1280) (b : Fin 256), y = ix2 a b := ⟨y 0, y 1, eq_ix2 y⟩
  blk_simp
  rw [after1_3, emb1_3]
  exact outsAt1_apply V c t a b

end Cert.KernelIdeal.Val
end
-- ==== Proof.Res.lean ====
module

public import proofs.«01_k».proof.Proof.Arr
public import Idealize.ShloMosaic.Lib.Claim
public import Idealize.ShloMosaic.Lib.ValueLayout

@[expose] public section

set_option maxRecDepth 16384

noncomputable section

/-! The kernel's five results at an index, from its arguments. -/

namespace Cert.KernelIdeal.Val

open Idealize.ShloMosaic Idealize.ShloMosaic.TcCoe Idealize.ShloMosaic.Tactic
open Idealize.SL Idealize.SL.Sem
open Cert.KernelIdeal.Gen Cert.Quant

/-- Two leading axes merged by a shape cast, read back. -/
theorem split_apply {α : Type} {N : Nat} (x : (⟨2, ![1280, N]⟩ : Shape).Idx → α)
    (h : (⟨2, ![1280, N]⟩ : Shape).ShapeCasts ⟨3, ![2, 640, N]⟩) (b : Fin 2) (s : Fin 640) (k : Fin N) :
    shapeCast ⟨3, ![2, 640, N]⟩ x h (ix3 b s k) = x (ix2 (⟨640 * b.val + s.val, by omega⟩ : Fin 1280) k) :=
  shapeCast_apply x h _ _ (by
    rw [Shape.rowMajor_val_three, Shape.rowMajor_val_two]
    show (640 * b.val + s.val) * N + k.val = (b.val * 640 + s.val) * N + k.val
    rw [Nat.mul_comm b.val])

/-- Two leading axes merged by a shape cast. -/
theorem merge_apply {α : Type} {N : Nat} (x : (⟨3, ![2, 640, N]⟩ : Shape).Idx → α)
    (h : (⟨3, ![2, 640, N]⟩ : Shape).ShapeCasts ⟨2, ![1280, N]⟩) (b : Fin 2) (s : Fin 640) (k : Fin N) :
    shapeCast ⟨2, ![1280, N]⟩ x h (ix2 (⟨640 * b.val + s.val, by omega⟩ : Fin 1280) k) = x (ix3 b s k) :=
  shapeCast_apply x h _ _ (by
    rw [Shape.rowMajor_val_three, Shape.rowMajor_val_two]
    show (b.val * 640 + s.val) * N + k.val = (640 * b.val + s.val) * N + k.val
    rw [Nat.mul_comm b.val])

variable (m : (ℓ : Loc nD τ sig) → Buf (Elt Ideal) ℓ) (ρ : Dev nD → PrngReg) (c : Dev nD)

abbrev argX : S2x640x12288.Idx → EReal := m ((c.tc : Thread nD τ).loc main_arg0)
abbrev argW : S12288.Idx → EReal := m ((c.tc : Thread nD τ).loc main_arg1)
abbrev argP : S6144x4096.Idx → BitVec 8 := m ((c.tc : Thread nD τ).loc main_arg2)
abbrev argS : S96x4096.Idx → EReal := m ((c.tc : Thread nD τ).loc main_arg3)

theorem V1_v0 : V1 m ρ c main_v0 = shapeCast S1280x12288 (argX m c) shapeCasts_S2x640x12288_S1280x12288 := by
  show StableHlo.after hostOps0 (W0 m ρ c) (Proc.devRef .tc main_v0) = _
  simp only [hostOps0]
  after_results_simp <;> rfl
theorem V1_v1 : V1 m ρ c main_v1 = shapeCast S1x12288 (argW m c) shapeCasts_S12288_S1x12288 := by
  show StableHlo.after hostOps0 (W0 m ρ c) (Proc.devRef .tc main_v1) = _
  simp only [hostOps0]
  after_results_simp <;> rfl

/-! The host stretches only reshape. -/

theorem W4_v4 : W4 m ρ c (Proc.devRef .tc main_v4) = shapeCast S2x640x4096
    (W3 m ρ c (Proc.devRef .tc main_v3) : S1280x4096.Idx → EReal) shapeCasts_S1280x4096_S2x640x4096 := by
  show StableHlo.after hostOps2 (W3 m ρ c) (Proc.devRef .tc main_v4) = _
  simp only [hostOps2]
  after_results_simp <;> rfl
theorem W4_v5 : W4 m ρ c (Proc.devRef .tc main_v5) = shapeCast S2x640x12288
    (W3 m ρ c (Proc.devRef .tc main_v2_0) : S1280x12288.Idx → EReal) shapeCasts_S1280x12288_S2x640x12288 := by
  show StableHlo.after hostOps2 (W3 m ρ c) (Proc.devRef .tc main_v5) = _
  simp only [hostOps2]
  after_results_simp <;> rfl
theorem W4_v6 : W4 m ρ c (Proc.devRef .tc main_v6) = shapeCast S2x640x6144
    (W3 m ρ c (Proc.devRef .tc main_v2_2) : S1280x6144.Idx → BitVec 8) shapeCasts_S1280x6144_S2x640x6144 := by
  show StableHlo.after hostOps2 (W3 m ρ c) (Proc.devRef .tc main_v6) = _
  simp only [hostOps2]
  after_results_simp <;> rfl
theorem W4_v7 : W4 m ρ c (Proc.devRef .tc main_v7) = shapeCast S2x640x96
    (W3 m ρ c (Proc.devRef .tc main_v2_3) : S1280x96.Idx → EReal) shapeCasts_S1280x96_S2x640x96 := by
  show StableHlo.after hostOps2 (W3 m ρ c) (Proc.devRef .tc main_v7) = _
  simp only [hostOps2]
  after_results_simp <;> rfl
theorem W4_v8 : W4 m ρ c (Proc.devRef .tc main_v8) = shapeCast S2x640x96
    (W3 m ρ c (Proc.devRef .tc main_v2_4) : S1280x96.Idx → BitVec 8) shapeCasts_S1280x96_S2x640x96 := by
  show StableHlo.after hostOps2 (W3 m ρ c) (Proc.devRef .tc main_v8) = _
  simp only [hostOps2]
  after_results_simp <;> rfl

theorem vRow_eq (b : Fin 2) (s : Fin 640) :
    vRow (V1 m ρ) c ⟨640 * b.val + s.val, by omega⟩ = inRow (argX m c) b s := by
  funext k
  show V1 m ρ c main_v0 (ix2 _ k) = _
  rw [V1_v0]
  exact merge_apply _ _ b s k

theorem wRow_eq : wRow (V1 m ρ) c = inW (argW m c) := by
  funext k
  show V1 m ρ c main_v1 (ix2 0 k) = _
  rw [V1_v1]
  exact shapeCast_apply _ _ _ _ (by
    rw [Shape.rowMajor_val_two, Shape.rowMajor_val_one]
    show k.val = 0 * 12288 + k.val
    omega)

/-- The second result: the normalised rows. -/
theorem res_v5 (b : Fin 2) (s : Fin 640) (k : Fin 12288) :
    (W4 m ρ c (Proc.devRef .tc main_v5) : S2x640x12288.Idx → EReal) (ix3 b s k) = rowXn (inRow (argX m c) b s) (inW (argW m c)) k := by
  rw [W4_v5, split_apply, W3_of_ne m ρ c main_v2_0 (by decide +kernel), W2_arr m ρ c 2, arr0_2]
  show rowXn (vRow (V1 m ρ) c (⟨640 * b.val + s.val, by omega⟩ : Fin 1280)) (wRow (V1 m ρ) c) k = _
  rw [vRow_eq, wRow_eq]

/-- The third result: the packed codes. -/
theorem res_v6 (b : Fin 2) (s : Fin 640) (k : Fin 6144) :
    (W4 m ρ c (Proc.devRef .tc main_v6) : S2x640x6144.Idx → BitVec 8) (ix3 b s k) = rowCod (inRow (argX m c) b s) (inW (argW m c)) k := by
  rw [W4_v6, split_apply, W3_of_ne m ρ c main_v2_2 (by decide +kernel), W2_arr m ρ c 4, arr0_4]
  show rowCod (vRow (V1 m ρ) c (⟨640 * b.val + s.val, by omega⟩ : Fin 1280)) (wRow (V1 m ρ) c) k = _
  rw [vRow_eq, wRow_eq]

/-- The fourth result: the steps. -/
theorem res_v7 (b : Fin 2) (s : Fin 640) (k : Fin 96) :
    (W4 m ρ c (Proc.devRef .tc main_v7) : S2x640x96.Idx → EReal) (ix3 b s k) = rowSc (inRow (argX m c) b s) (inW (argW m c)) k := by
  rw [W4_v7, split_apply, W3_of_ne m ρ c main_v2_3 (by decide +kernel), W2_arr m ρ c 5, arr0_5]
  show rowSc (vRow (V1 m ρ) c (⟨640 * b.val + s.val, by omega⟩ : Fin 1280)) (wRow (V1 m ρ) c) k = _
  rw [vRow_eq, wRow_eq]

/-- The fifth result: the zero points. -/
theorem res_v8 (b : Fin 2) (s : Fin 640) (k : Fin 96) :
    (W4 m ρ c (Proc.devRef .tc main_v8) : S2x640x96.Idx → BitVec 8) (ix3 b s k) = rowZe (inRow (argX m c) b s) (inW (argW m c)) k := by
  rw [W4_v8, split_apply, W3_of_ne m ρ c main_v2_4 (by decide +kernel), W2_arr m ρ c 6, arr0_6]
  show rowZe (vRow (V1 m ρ) c (⟨640 * b.val + s.val, by omega⟩ : Fin 1280)) (wRow (V1 m ρ) c) k = _
  rw [vRow_eq, wRow_eq]

/-- The matrix product the second pipeline leaves, from the arguments. -/
theorem prodY_eq (b : Fin 2) (s : Fin 640) (n : Fin 4096) :
    prodY (V2 m ρ) c (ix2 ⟨640 * b.val + s.val, by omega⟩ n)
      = rowDot (inRow (argX m c) b s) (inW (argW m c)) (fun p => argP m c (ix2 p n)) (fun g => argS m c (ix2 g n)) := by
  have hA : A1 (V2 m ρ) c = fun y : S1280x12288.Idx => rowDq (vRow (V1 m ρ) c (y 0)) (wRow (V1 m ρ) c) (y 1) := by
    show W2 m ρ c (Proc.devRef .tc main_v2_1) = _
    exact (W2_arr m ρ c 3).trans (arr0_3 (V1 m ρ) c)
  have hP : P1 (V2 m ρ) c = argP m c := W2_args m ρ c main_arg2 (by decide)
  have hS : S1 (V2 m ρ) c = argS m c := W2_args m ρ c main_arg3 (by decide)
  unfold prodY rowDot
  rw [hA, hP, hS]
  refine Finset.sum_congr rfl fun k _ => ?_
  show rowDq (vRow (V1 m ρ) c (⟨640 * b.val + s.val, by omega⟩ : Fin 1280)) (wRow (V1 m ρ) c) k * colW (fun p => argP m c (ix2 p n)) (fun g => argS m c (ix2 g n)) k = _
  rw [vRow_eq, wRow_eq]

/-- The first result: each entry is a dequantised row times a dequantised column of weights. -/
theorem res_v4 (b : Fin 2) (s : Fin 640) (n : Fin 4096) :
    (W4 m ρ c (Proc.devRef .tc main_v4) : S2x640x4096.Idx → EReal) (ix3 b s n)
      = rowDot (inRow (argX m c) b s) (inW (argW m c)) (fun p => argP m c (ix2 p n)) (fun g => argS m c (ix2 g n)) := by
  rw [W4_v4, split_apply, W3_arr m ρ c 3, arr1_3]
  exact prodY_eq m ρ c b s n

end Cert.KernelIdeal.Val
end
-- ==== Proof.RefStages.lean ====
module

public import proofs.«01_k».proof.Proof.Spec
public import proofs.«01_k».proof.Proof.Gen.ReferenceIdeal.Run
public import Idealize.ShloMosaic.Lib.Tactic.CleanTypes
public import Idealize.ShloMosaic.Lib.ValueLayout
public import Idealize.ShloMosaic.Lib.Pointwise

@[expose] public section

set_option maxRecDepth 16384

noncomputable section

/-! What the reference computes, at an index: its stages as functions of its arguments. -/

namespace Cert.ReferenceIdeal.Val

open Idealize.ShloMosaic Idealize.ShloMosaic.TcCoe Idealize.ShloMosaic.Tactic
open Idealize.SL Idealize.SL.Sem
open Cert.ReferenceIdeal Cert.ReferenceIdeal.Gen Cert.ReferenceIdeal.Value Cert.Quant

/-- The normalised input. -/
def sXn (x : FVec Ideal S2x640x12288 .bf16) (w : FVec Ideal S12288 .f32) : FVec Ideal S2x640x12288 .bf16 :=
  truncf .bf16 (mulf (mulf (extf .f32 x bitsLt_bf16_f32) (broadcastInDim S2x640x12288 ![0, 1, 2] bcast_S2x640x1_S2x640x12288_0_1_2 (broadcastInDim S2x640x1 ![0, 1] bcast_S2x640_S2x640x1_0_1 (Host.rsqrt (addf (Host.divf (Host.reduceAdd (mulf (extf .f32 x bitsLt_bf16_f32) (extf .f32 x bitsLt_bf16_f32)) (constant S_ .f32 0x00000000#32) reducesTo_S2x640x12288_S2x640_d2 h_S_) (broadcastInDim S2x640 ![] bcast_S_S2x640 (constant S_ .f32 0x46400000#32))) (broadcastInDim S2x640 ![] bcast_S_S2x640 (constant S_ .f32 0x358637BD#32))))))) (broadcastInDim S2x640x12288 ![0, 1, 2] bcast_S1x1x12288_S2x640x12288_0_1_2 (broadcastInDim S1x1x12288 ![2] bcast_S12288_S1x1x12288_2 w))) bitsLt_bf16_f32
/-- Cut into groups of 128. -/
def sG (xn : FVec Ideal S2x640x12288 .bf16) : FVec Ideal S2x640x96x128 .f32 :=
  shapeCast _ (extf .f32 xn bitsLt_bf16_f32) shapeCasts_S2x640x12288_S2x640x96x128
def sLo (g : FVec Ideal S2x640x96x128 .f32) : FVec Ideal S2x640x96 .f32 :=
  minimumf (broadcastInDim S2x640x96 ![] bcast_S_S2x640x96 (constant S_ .f32 0x00000000#32)) (Host.reduce FloatOps.minimumf g (constant S_ .f32 0x7F800000#32) reducesTo_S2x640x96x128_S2x640x96_d3 h_S_)
def sHi (g : FVec Ideal S2x640x96x128 .f32) : FVec Ideal S2x640x96 .f32 :=
  maximumf (broadcastInDim S2x640x96 ![] bcast_S_S2x640x96 (constant S_ .f32 0x00000000#32)) (Host.reduce FloatOps.maximumf g (constant S_ .f32 0xFF800000#32) reducesTo_S2x640x96x128_S2x640x96_d3 h_S_)
/-- The steps, from the groups' ends. -/
def sSc (lo hi : FVec Ideal S2x640x96 .f32) : FVec Ideal S2x640x96 .f32 :=
  select (cmpf .oeq hi lo) (broadcastInDim S2x640x96 ![] bcast_S_S2x640x96 (constant S_ .f32 0x3F800000#32)) (Host.divf (subf hi lo) (broadcastInDim S2x640x96 ![] bcast_S_S2x640x96 (constant S_ .f32 0x41700000#32)))
/-- The zero points before their conversion. -/
def sZp (lo sc : FVec Ideal S2x640x96 .f32) : FVec Ideal S2x640x96 .f32 := Host.roundeven (Host.divf (Host.negf lo) sc)
/-- The zero points. -/
def sZe (zp : FVec Ideal S2x640x96 .f32) : IVec S2x640x96 8 := trunci 8 (fptosi 32 zp) natLt_8_32
/-- A number of each group, spread over the group. -/
def sSpread {α : Type} (v : S2x640x96.Idx → α) : S2x640x96x128.Idx → α :=
  broadcastInDim S2x640x96x128 ![0, 1, 2, 3] bcast_S2x640x96x1_S2x640x96x128_0_1_2_3 (broadcastInDim S2x640x96x1 ![0, 1, 2] bcast_S2x640x96_S2x640x96x1_0_1_2 v)
/-- The codes. -/
def sCode (g : FVec Ideal S2x640x96x128 .f32) (sc zp : FVec Ideal S2x640x96 .f32) : IVec S2x640x96x128 8 :=
  trunci 8 (fptosi 32 (minimumf (broadcastInDim S2x640x96x128 ![] bcast_S_S2x640x96x128 (id (constant S_ .f32 0x41700000#32))) (maximumf (broadcastInDim S2x640x96x128 ![] bcast_S_S2x640x96x128 (id (constant S_ .f32 0x00000000#32))) (addf (Host.roundeven (Host.divf g (sSpread sc))) (sSpread zp))))) natLt_8_32
/-- The codes side by side in pairs. -/
def sPair (q : IVec S2x640x96x128 8) : IVec S2x640x6144x2 32 :=
  shapeCast _ (extui 32 q natLt_8_32) shapeCasts_S2x640x96x128_S2x640x6144x2
/-- The packed codes. -/
def sCod (q : IVec S2x640x6144x2 32) : IVec S2x640x6144 8 :=
  trunci 8 (ori (shapeCast _ (extractStridedSlice S2x640x6144x1 ![0, 0, 0, 0] q slices_S2x640x6144x2_S2x640x6144x1_0_0_0_0) shapeCasts_S2x640x6144x1_S2x640x6144)
    (Host.shli (shapeCast _ (extractStridedSlice S2x640x6144x1 ![0, 0, 0, 1] q slices_S2x640x6144x2_S2x640x6144x1_0_0_0_1) shapeCasts_S2x640x6144x1_S2x640x6144) (broadcastInDim S2x640x6144 ![] bcast_S_S2x640x6144 (constantI S_ 32 4#32)))) natLt_8_32
/-- The dequantised groups. -/
def sA (q : IVec S2x640x96x128 8) (ze : IVec S2x640x96 8) (sc : FVec Ideal S2x640x96 .f32) : FVec Ideal S2x640x96x128 .bf16 :=
  mulf (sitofp .bf16 (subi (extui 32 q natLt_8_32) (sSpread (extui 32 ze natLt_8_32)))) (sSpread (truncf .bf16 sc bitsLt_bf16_f32))
/-- Four bits of each byte, with their sign. -/
def sSgn (v : IVec S6144x4096 32) : IVec S6144x4096 32 :=
  select (cmpi .sge v (broadcastInDim S6144x4096 ![] bcast_S_S6144x4096 (constantI S_ 32 8#32))) (subi v (broadcastInDim S6144x4096 ![] bcast_S_S6144x4096 (constantI S_ 32 16#32))) v
/-- Both halves of each byte, in turn. -/
def sNib (p : IVec S6144x4096 8) : IVec S6144x2x4096 32 :=
  fn_main_v81 (F := Ideal) (broadcastInDim S6144x1x4096 ![0, 2] bcast_S6144x4096_S6144x1x4096_0_2 (sSgn (andi (extui 32 p natLt_8_32) (broadcastInDim S6144x4096 ![] bcast_S_S6144x4096 (constantI S_ 32 15#32)))))
    (broadcastInDim S6144x1x4096 ![0, 2] bcast_S6144x4096_S6144x1x4096_0_2 (sSgn (Host.shrsi (extui 32 p natLt_8_32) (broadcastInDim S6144x4096 ![] bcast_S_S6144x4096 (constantI S_ 32 4#32)))))
/-- The dequantised weights, in groups. -/
def sWt (q : IVec S6144x2x4096 32) (ws : FVec Ideal S96x4096 .f32) : FVec Ideal S96x128x4096 .bf16 :=
  mulf (shapeCast _ (sitofp .bf16 q) shapeCasts_S6144x2x4096_S96x128x4096)
    (broadcastInDim S96x128x4096 ![0, 1, 2] bcast_S96x1x4096_S96x128x4096_0_1_2 (broadcastInDim S96x1x4096 ![0, 2] bcast_S96x4096_S96x1x4096_0_2 (truncf .bf16 ws bitsLt_bf16_f32)))
/-- The product. -/
def sY (a : FVec Ideal S2x640x96x128 .bf16) (w : FVec Ideal S96x128x4096 .bf16) : FVec Ideal S2x640x4096 .bf16 :=
  truncf .bf16 (Host.dotGeneral dot_S2x640x12288_S12288x4096_S2x640x4096_2_0_01_1_n_n none (shapeCast S2x640x12288 a shapeCasts_S2x640x96x128_S2x640x12288) (shapeCast S12288x4096 w shapeCasts_S96x128x4096_S12288x4096)) bitsLt_bf16_f32

section Stages
variable (m : (ℓ : Loc nD τ sig) → Buf (Elt Ideal) ℓ) (c : Dev nD)
abbrev argX : FVec Ideal S2x640x12288 .bf16 := m ((c.tc : Thread nD τ).loc main_arg0)
abbrev argW : FVec Ideal S12288 .f32 := m ((c.tc : Thread nD τ).loc main_arg1)
abbrev argP : IVec S6144x4096 8 := m ((c.tc : Thread nD τ).loc main_arg2)
abbrev argS : FVec Ideal S96x4096 .f32 := m ((c.tc : Thread nD τ).loc main_arg3)
/-- The groups of the normalised input. -/
def aG : FVec Ideal S2x640x96x128 .f32 := sG (sXn (argX m c) (argW m c))
def aSc : FVec Ideal S2x640x96 .f32 := sSc (sLo (aG m c)) (sHi (aG m c))
def aZp : FVec Ideal S2x640x96 .f32 := sZp (sLo (aG m c)) (aSc m c)
def aCode : IVec S2x640x96x128 8 := sCode (aG m c) (aSc m c) (aZp m c)

theorem res_sc : res_main_v27 m c = aSc m c := rfl
theorem res_ze : res_main_v42 m c = sZe (aZp m c) := rfl
theorem res_cod : res_main_v52 m c = sCod (sPair (aCode m c)) := rfl
theorem res_y : res_main_v90 m c = sY (sA (aCode m c) (sZe (aZp m c)) (aSc m c)) (sWt (sNib (argP m c)) (argS m c)) := rfl
end Stages

end Cert.ReferenceIdeal.Val
end
-- ==== Proof.Ref.lean ====
module

public import proofs.«01_k».proof.Proof.RefStages
public import Idealize.ShloMosaic.Lib.Tactic.CleanTypes
public import Idealize.ShloMosaic.Lib.ValueLayout
public import Idealize.ShloMosaic.Lib.Pointwise

@[expose] public section

set_option maxRecDepth 16384

noncomputable section

/-! What each stage of the reference computes, at an index. -/

namespace Cert.ReferenceIdeal.Val

open Idealize.ShloMosaic Idealize.ShloMosaic.TcCoe Idealize.ShloMosaic.Tactic
open Idealize.SL Idealize.SL.Sem
open Cert.ReferenceIdeal Cert.ReferenceIdeal.Gen Cert.ReferenceIdeal.Value Cert.Quant

theorem sXn_apply (x : FVec Ideal S2x640x12288 .bf16) (w : FVec Ideal S12288 .f32) (b : Fin 2) (s : Fin 640) (k : Fin 12288) :
    sXn x w (ix3 b s k) = rowXn (inRow x b s) (inW w) k := by
  pointwise [sXn]
  rfl

theorem sG_apply (xn : FVec Ideal S2x640x12288 .bf16) (b : Fin 2) (s : Fin 640) (g : Fin 96) (j : Fin 128) :
    sG xn (ix4 b s g j) = xn (ix3 b s ⟨128 * g.val + j.val, by omega⟩) := by
  unfold sG
  refine (shapeCast_apply _ _ _ (ix3 b s ⟨128 * g.val + j.val, by omega⟩) ?_).trans ?_
  · rw [Shape.rowMajor_val_three, Shape.rowMajor_val_four]
    show (b.val * 640 + s.val) * 12288 + (128 * g.val + j.val) = ((b.val * 640 + s.val) * 96 + g.val) * 128 + j.val
    omega
  · rfl

theorem zero_ix3 (b : Fin 2) (s : Fin 640) (g : Fin 96) :
    broadcastInDim S2x640x96 ![] bcast_S_S2x640x96 (constant S_ .f32 0x00000000#32 : FVec Ideal S_ .f32) (ix3 b s g) = (0 : EReal) := by
  pointwise

theorem const_pinf : (constant S_ .f32 0x7F800000#32 : FVec Ideal S_ .f32) = fun _ => (⊤ : EReal) := funext fun _ => ofBits_pinf_f32

theorem red_min (G : FVec Ideal S2x640x96x128 .f32) (b : Fin 2) (s : Fin 640) (g : Fin 96) :
    Host.reduce FloatOps.minimumf G (fun _ => (⊤ : EReal)) reducesTo_S2x640x96x128_S2x640x96_d3 h_S_ (ix3 b s g) = Finset.univ.fold min (⊤ : EReal) (fun j => G (ix4 b s g j)) := by
  pointwise

/-- The reduction over a group, from its own constant. -/
theorem redMin_apply (G : FVec Ideal S2x640x96x128 .f32) (b : Fin 2) (s : Fin 640) (g : Fin 96) :
    Host.reduce FloatOps.minimumf G (constant S_ .f32 0x7F800000#32 : FVec Ideal S_ .f32) reducesTo_S2x640x96x128_S2x640x96_d3 h_S_ (ix3 b s g) = Finset.univ.fold min (⊤ : EReal) (fun j => G (ix4 b s g j)) :=
  (congrArg (fun i : FVec Ideal S_ .f32 => Host.reduce FloatOps.minimumf G i reducesTo_S2x640x96x128_S2x640x96_d3 h_S_ (ix3 b s g)) const_pinf).trans (red_min G b s g)

theorem min_ix3 (x y : FVec Ideal S2x640x96 .f32) (b : Fin 2) (s : Fin 640) (g : Fin 96) :
    minimumf x y (ix3 b s g) = min (x (ix3 b s g)) (y (ix3 b s g)) := rfl

/-- The least number of a group, with zero. -/
theorem sLo_apply (G : FVec Ideal S2x640x96x128 .f32) (b : Fin 2) (s : Fin 640) (g : Fin 96) :
    sLo G (ix3 b s g) = gLo (fun j => G (ix4 b s g j)) := by
  unfold sLo
  rw [min_ix3, redMin_apply, zero_ix3]
  unfold gLo
  exact min_comm _ _

theorem const_ninf : (constant S_ .f32 0xFF800000#32 : FVec Ideal S_ .f32) = fun _ => (⊥ : EReal) := funext fun _ => ofBits_ninf_f32

theorem red_max (G : FVec Ideal S2x640x96x128 .f32) (b : Fin 2) (s : Fin 640) (g : Fin 96) :
    Host.reduce FloatOps.maximumf G (fun _ => (⊥ : EReal)) reducesTo_S2x640x96x128_S2x640x96_d3 h_S_ (ix3 b s g) = Finset.univ.fold max (⊥ : EReal) (fun j => G (ix4 b s g j)) := by
  pointwise

/-- The reduction over a group, from its own constant. -/
theorem redMax_apply (G : FVec Ideal S2x640x96x128 .f32) (b : Fin 2) (s : Fin 640) (g : Fin 96) :
    Host.reduce FloatOps.maximumf G (constant S_ .f32 0xFF800000#32 : FVec Ideal S_ .f32) reducesTo_S2x640x96x128_S2x640x96_d3 h_S_ (ix3 b s g) = Finset.univ.fold max (⊥ : EReal) (fun j => G (ix4 b s g j)) :=
  (congrArg (fun i : FVec Ideal S_ .f32 => Host.reduce FloatOps.maximumf G i reducesTo_S2x640x96x128_S2x640x96_d3 h_S_ (ix3 b s g)) const_ninf).trans (red_max G b s g)

theorem max_ix3 (x y : FVec Ideal S2x640x96 .f32) (b : Fin 2) (s : Fin 640) (g : Fin 96) :
    maximumf x y (ix3 b s g) = max (x (ix3 b s g)) (y (ix3 b s g)) := rfl

/-- The greatest number of a group, with zero. -/
theorem sHi_apply (G : FVec Ideal S2x640x96x128 .f32) (b : Fin 2) (s : Fin 640) (g : Fin 96) :
    sHi G (ix3 b s g) = gHi (fun j => G (ix4 b s g j)) := by
  unfold sHi
  rw [max_ix3, redMax_apply, zero_ix3]
  unfold gHi
  exact max_comm _ _

theorem sSc_apply (lo hi : FVec Ideal S2x640x96 .f32) (b : Fin 2) (s : Fin 640) (g : Fin 96) :
    sSc lo hi (ix3 b s g) = scOf (lo (ix3 b s g)) (hi (ix3 b s g)) := by
  pointwise [sSc]
  rw [ofBits_15_f32]
  unfold scOf
  rfl

theorem sZp_apply (lo sc : FVec Ideal S2x640x96 .f32) (b : Fin 2) (s : Fin 640) (g : Fin 96) :
    sZp lo sc (ix3 b s g) = rnd (Ideal.div (-lo (ix3 b s g)) (sc (ix3 b s g))) := by
  pointwise [sZp]

theorem sSpread_apply {α : Type} (v : S2x640x96.Idx → α) (b : Fin 2) (s : Fin 640) (g : Fin 96) (j : Fin 128) :
    sSpread v (ix4 b s g j) = v (ix3 b s g) := by
  pointwise [sSpread]

theorem sCode_apply (G : FVec Ideal S2x640x96x128 .f32) (sc zp : FVec Ideal S2x640x96 .f32) (b : Fin 2) (s : Fin 640) (g : Fin 96) (j : Fin 128) :
    sCode G sc zp (ix4 b s g j) = (Ideal.fptosi 32 (min ((15 : ℝ) : EReal) (max 0 (rnd (Ideal.div (G (ix4 b s g j)) (sc (ix3 b s g))) + zp (ix3 b s g))))).setWidth 8 := by
  pointwise [sCode, sSpread_apply]
  rw [show id (constant S_ FTy.f32 1097859072#32 : FVec Ideal S_ .f32) ix0 = ((15 : ℝ) : EReal) from ofBits_15_f32,
    show id (constant S_ FTy.f32 0#32 : FVec Ideal S_ .f32) ix0 = (0 : EReal) from ofBits_0_f32]
  exact congrArg (BitVec.setWidth 8) rfl

theorem sPair_apply (q : IVec S2x640x96x128 8) (b : Fin 2) (s : Fin 640) (k : Fin 6144) (h : Fin 2) :
    sPair q (ix4 b s k h) = (q (ix4 b s ⟨k.val / 64, by omega⟩ ⟨2 * (k.val % 64) + h.val, by omega⟩)).setWidth 32 := by
  unfold sPair
  refine (shapeCast_apply _ _ _ (ix4 b s ⟨k.val / 64, by omega⟩ ⟨2 * (k.val % 64) + h.val, by omega⟩) ?_).trans ?_
  · rw [Shape.rowMajor_val_four, Shape.rowMajor_val_four]
    show ((b.val * 640 + s.val) * 96 + k.val / 64) * 128 + (2 * (k.val % 64) + h.val) = ((b.val * 640 + s.val) * 6144 + k.val) * 2 + h.val
    omega
  · rfl

theorem sCod_apply (q : IVec S2x640x6144x2 32) (b : Fin 2) (s : Fin 640) (k : Fin 6144) :
    sCod q (ix3 b s k) = (IntOp.ori (q (ix4 b s k 0)) (IntOp.shli .host (q (ix4 b s k 1)) 4#32)).setWidth 8 := by
  pointwise [sCod]

theorem sA_apply (q : IVec S2x640x96x128 8) (ze : IVec S2x640x96 8) (sc : FVec Ideal S2x640x96 .f32) (b : Fin 2) (s : Fin 640) (g : Fin 96) (j : Fin 128) :
    sA q ze sc (ix4 b s g j) = (((IntOp.subi ((q (ix4 b s g j)).setWidth 32) ((ze (ix3 b s g)).setWidth 32)).toInt : ℝ) : EReal) * sc (ix3 b s g) := by
  pointwise [sA, sSpread_apply]
  exact congrArg (· * sc (ix3 b s g)) rfl

/-- The low half of a byte, as the reference takes it out. -/
theorem nib_low : ∀ b : BitVec 8, (Scalar.select (IntOp.cmpi CmpIPredicate.sge (IntOp.andi (BitVec.setWidth 32 b) 15#32) 8#32)
        (IntOp.subi (IntOp.andi (BitVec.setWidth 32 b) 15#32) 16#32) (IntOp.andi (BitVec.setWidth 32 b) 15#32)).toInt = nib b 0 := by
  decide +kernel
/-- The high half of a byte, as the reference takes it out. -/
theorem nib_high : ∀ b : BitVec 8, (Scalar.select (IntOp.cmpi CmpIPredicate.sge (IntOp.shrsi ArithUnit.host (BitVec.setWidth 32 b) 4#32) 8#32)
        (IntOp.subi (IntOp.shrsi ArithUnit.host (BitVec.setWidth 32 b) 4#32) 16#32) (IntOp.shrsi ArithUnit.host (BitVec.setWidth 32 b) 4#32)).toInt = nib b 1 := by
  decide +kernel

theorem sNib_apply (p : IVec S6144x4096 8) (k : Fin 6144) (h : Fin 2) (n : Fin 4096) :
    (sNib p (ix3 k h n)).toInt = nib (p (ix2 k n)) h.val := by
  fin_cases h
  · pointwise [sNib, fn_main_v81, sSgn]
    exact nib_low _
  · pointwise [sNib, fn_main_v81, sSgn]
    exact nib_high _

theorem sWt_apply (q : IVec S6144x2x4096 32) (ws : FVec Ideal S96x4096 .f32) (g : Fin 96) (j : Fin 128) (n : Fin 4096) :
    sWt q ws (ix3 g j n) = (((q (ix3 ⟨(128 * g.val + j.val) / 2, by omega⟩ ⟨(128 * g.val + j.val) % 2, by omega⟩ n)).toInt : ℝ) : EReal) * ws (ix2 g n) := by
  pointwise [sWt]
  have e1 : (⟨g.val * 64 + j.val / 2, by omega⟩ : Fin 6144) = ⟨(128 * g.val + j.val) / 2, by omega⟩ := Fin.ext (by show g.val * 64 + j.val / 2 = (128 * g.val + j.val) / 2; omega)
  have e2 : (⟨j.val % 2, by omega⟩ : Fin 2) = ⟨(128 * g.val + j.val) % 2, by omega⟩ := Fin.ext (by show j.val % 2 = (128 * g.val + j.val) % 2; omega)
  rw [e1, e2]
  exact congrArg (· * ws (ix2 g n)) rfl

theorem sY_apply (a : FVec Ideal S2x640x96x128 .bf16) (w : FVec Ideal S96x128x4096 .bf16) (b : Fin 2) (s : Fin 640) (n : Fin 4096) :
    sY a w (ix3 b s n) = ∑ k : Fin 12288, a (ix4 b s ⟨k.val / 128, by omega⟩ ⟨k.val % 128, by omega⟩) * w (ix3 ⟨k.val / 128, by omega⟩ ⟨k.val % 128, by omega⟩ n) := by
  pointwise [sY]

/-! The results, at an index. -/

section Results
variable (m : (ℓ : Loc nD τ sig) → Buf (Elt Ideal) ℓ) (c : Dev nD)

theorem aG_apply (b : Fin 2) (s : Fin 640) (g : Fin 96) (j : Fin 128) :
    aG m c (ix4 b s g j) = rowGrp (inRow (argX m c) b s) (inW (argW m c)) g j := by
  unfold aG
  rw [sG_apply, sXn_apply]
  rfl

theorem aG_grp (b : Fin 2) (s : Fin 640) (g : Fin 96) :
    (fun j => aG m c (ix4 b s g j)) = rowGrp (inRow (argX m c) b s) (inW (argW m c)) g := funext fun j => aG_apply m c b s g j

/-- The fourth result: the steps. -/
theorem aSc_apply (b : Fin 2) (s : Fin 640) (g : Fin 96) :
    aSc m c (ix3 b s g) = rowSc (inRow (argX m c) b s) (inW (argW m c)) g := by
  unfold aSc
  rw [sSc_apply, sLo_apply, sHi_apply, aG_grp]
  rfl

theorem aZp_apply (b : Fin 2) (s : Fin 640) (g : Fin 96) :
    aZp m c (ix3 b s g) = gZp (rowGrp (inRow (argX m c) b s) (inW (argW m c)) g) := by
  unfold aZp
  rw [sZp_apply, sLo_apply, aG_grp, aSc_apply]
  rfl

/-- The fifth result: the zero points. -/
theorem aZe_apply (b : Fin 2) (s : Fin 640) (g : Fin 96) :
    sZe (aZp m c) (ix3 b s g) = rowZe (inRow (argX m c) b s) (inW (argW m c)) g := by
  show (Ideal.fptosi 32 (aZp m c (ix3 b s g))).setWidth 8 = _
  rw [aZp_apply]
  rfl

theorem aCode_apply (b : Fin 2) (s : Fin 640) (g : Fin 96) (j : Fin 128) :
    aCode m c (ix4 b s g j) = gCode (rowGrp (inRow (argX m c) b s) (inW (argW m c)) g) (rowGrp (inRow (argX m c) b s) (inW (argW m c)) g j) := by
  unfold aCode
  rw [sCode_apply, aG_apply, aSc_apply, aZp_apply]
  rfl

/-- The third result: the packed codes. -/
theorem aCod_apply (b : Fin 2) (s : Fin 640) (k : Fin 6144) :
    sCod (sPair (aCode m c)) (ix3 b s k) = rowCod (inRow (argX m c) b s) (inW (argW m c)) k := by
  rw [sCod_apply, sPair_apply, sPair_apply, aCode_apply, aCode_apply]
  rfl

theorem aA_apply (b : Fin 2) (s : Fin 640) (k : Fin 12288) :
    sA (aCode m c) (sZe (aZp m c)) (aSc m c) (ix4 b s ⟨k.val / 128, by omega⟩ ⟨k.val % 128, by omega⟩)
      = rowDq (inRow (argX m c) b s) (inW (argW m c)) k := by
  rw [sA_apply, aCode_apply, aZe_apply, aSc_apply]
  have e : rowGrp (inRow (argX m c) b s) (inW (argW m c)) ⟨k.val / 128, by omega⟩ ⟨k.val % 128, by omega⟩ = rowXn (inRow (argX m c) b s) (inW (argW m c)) k := by
    unfold rowGrp
    exact congrArg _ (Fin.ext (Nat.div_add_mod k.val 128))
  rw [e]
  rfl

theorem aW_apply (k : Fin 12288) (n : Fin 4096) :
    sWt (sNib (argP m c)) (argS m c) (ix3 ⟨k.val / 128, by omega⟩ ⟨k.val % 128, by omega⟩ n)
      = colW (fun p => argP m c (ix2 p n)) (fun g => argS m c (ix2 g n)) k := by
  rw [sWt_apply, sNib_apply]
  unfold colW
  have e : 128 * (k.val / 128) + k.val % 128 = k.val := Nat.div_add_mod k.val 128
  simp only [e]

/-- The first result: the product. -/
theorem aY_apply (b : Fin 2) (s : Fin 640) (n : Fin 4096) :
    res_main_v90 m c (ix3 b s n)
      = rowDot (inRow (argX m c) b s) (inW (argW m c)) (fun p => argP m c (ix2 p n)) (fun g => argS m c (ix2 g n)) := by
  rw [res_y]
  refine (sY_apply _ _ b s n).trans ?_
  unfold rowDot
  exact Finset.sum_congr rfl fun k _ => congrArg₂ (· * ·) (aA_apply m c b s k) (aW_apply m c k n)
end Results

end Cert.ReferenceIdeal.Val
end
-- ==== Proof.Run.lean ====
module

public import proofs.«01_k».proof.Proof.Arr
public import Idealize.ShloMosaic.Lib.Claim

@[expose] public section

set_option maxRecDepth 16384

noncomputable section

/-! The kernel's run: what its five results hold. -/

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Quant

section Run
variable {F : FTy → Type} [FloatOps F]
variable (m : (ℓ : Loc nD τ sig) → Buf (Elt F) ℓ) (ρ : Dev nD → PrngReg)

-- `θ_run_regions_kit_sems`'s implicit arguments are found by unifying its conclusion with this one, which takes unfolding
-- plain definitions in a metavariable's type
set_option backward.isDefEq.respectTransparency.types false in
/-- Every run of the kernel ends with its five results at what the fold over its host operations and its two pipelines says,
    and its arguments unchanged. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4) ∧
      r.2.mem ((c.tc : Thread nD τ).loc main_v5) = W4 m ρ c (Proc.devRef .tc main_v5) ∧
      r.2.mem ((c.tc : Thread nD τ).loc main_v6) = W4 m ρ c (Proc.devRef .tc main_v6) ∧
      r.2.mem ((c.tc : Thread nD τ).loc main_v7) = W4 m ρ c (Proc.devRef .tc main_v7) ∧
      r.2.mem ((c.tc : Thread nD τ).loc main_v8) = W4 m ρ c (Proc.devRef .tc main_v8) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v4 (by decide)), h c _ (mem_uc main_v5 (by decide)), h c _ (mem_uc main_v6 (by decide)), h c _ (mem_uc main_v7 (by decide)), h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)
end Run

end Cert.KernelIdeal.Val
end
-- ==== Proof.Tie.lean ====
module

public import proofs.«01_k».proof.Proof.Res
public import proofs.«01_k».proof.Proof.Ref
public import proofs.«01_k».proof.Proof.Run

@[expose] public section

set_option maxRecDepth 16384

noncomputable section

/-! The reference's five results are the kernel's. -/

namespace Cert.Tie

open Idealize.ShloMosaic Idealize.ShloMosaic.TcCoe
open Idealize.SL Idealize.SL.Sem
open Cert.KernelIdeal.Gen Cert.Quant

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)
  (h0 : Cert.ReferenceIdeal.Val.argX m' c = Cert.KernelIdeal.Val.argX m c) (h1 : Cert.ReferenceIdeal.Val.argW m' c = Cert.KernelIdeal.Val.argW m c)
  (h2 : Cert.ReferenceIdeal.Val.argP m' c = Cert.KernelIdeal.Val.argP m c) (h3 : Cert.ReferenceIdeal.Val.argS m' c = Cert.KernelIdeal.Val.argS m c)

include h0 h1

/-- The normalised input. -/
theorem tie_v5 : (Cert.ReferenceIdeal.Val.sXn (Cert.ReferenceIdeal.Val.argX m' c) (Cert.ReferenceIdeal.Val.argW m' c) : Cert.KernelIdeal.S2x640x12288.Idx → EReal)
    = W4 m ρ c (Proc.devRef .tc Cert.KernelIdeal.main_v5) := by
  funext y
  obtain ⟨b, s, k, rfl⟩ : ∃ (b : Fin 2) (s : Fin 640) (k : Fin 12288), y = ix3 b s k := ⟨y 0, y 1, y 2, eq_ix3 y⟩
  refine (Cert.ReferenceIdeal.Val.sXn_apply (Cert.ReferenceIdeal.Val.argX m' c) (Cert.ReferenceIdeal.Val.argW m' c) b s k).trans (Eq.trans ?_ (Cert.KernelIdeal.Val.res_v5 m ρ c b s k).symm)
  rw [h0, h1]

/-- The packed codes. -/
theorem tie_v6 : (Cert.ReferenceIdeal.Value.res_main_v52 m' c : Cert.KernelIdeal.S2x640x6144.Idx → BitVec 8)
    = W4 m ρ c (Proc.devRef .tc Cert.KernelIdeal.main_v6) := by
  rw [Cert.ReferenceIdeal.Val.res_cod]
  funext y
  obtain ⟨b, s, k, rfl⟩ : ∃ (b : Fin 2) (s : Fin 640) (k : Fin 6144), y = ix3 b s k := ⟨y 0, y 1, y 2, eq_ix3 y⟩
  refine (Cert.ReferenceIdeal.Val.aCod_apply m' c b s k).trans (Eq.trans ?_ (Cert.KernelIdeal.Val.res_v6 m ρ c b s k).symm)
  rw [h0, h1]

/-- The steps. -/
theorem tie_v7 : (Cert.ReferenceIdeal.Value.res_main_v27 m' c : Cert.KernelIdeal.S2x640x96.Idx → EReal)
    = W4 m ρ c (Proc.devRef .tc Cert.KernelIdeal.main_v7) := by
  rw [Cert.ReferenceIdeal.Val.res_sc]
  funext y
  obtain ⟨b, s, k, rfl⟩ : ∃ (b : Fin 2) (s : Fin 640) (k : Fin 96), y = ix3 b s k := ⟨y 0, y 1, y 2, eq_ix3 y⟩
  refine (Cert.ReferenceIdeal.Val.aSc_apply m' c b s k).trans (Eq.trans ?_ (Cert.KernelIdeal.Val.res_v7 m ρ c b s k).symm)
  rw [h0, h1]

/-- The zero points. -/
theorem tie_v8 : (Cert.ReferenceIdeal.Value.res_main_v42 m' c : Cert.KernelIdeal.S2x640x96.Idx → BitVec 8)
    = W4 m ρ c (Proc.devRef .tc Cert.KernelIdeal.main_v8) := by
  rw [Cert.ReferenceIdeal.Val.res_ze]
  funext y
  obtain ⟨b, s, k, rfl⟩ : ∃ (b : Fin 2) (s : Fin 640) (k : Fin 96), y = ix3 b s k := ⟨y 0, y 1, y 2, eq_ix3 y⟩
  refine (Cert.ReferenceIdeal.Val.aZe_apply m' c b s k).trans (Eq.trans ?_ (Cert.KernelIdeal.Val.res_v8 m ρ c b s k).symm)
  rw [h0, h1]

include h2 h3

/-- The product. -/
theorem tie_v4 : (Cert.ReferenceIdeal.Value.res_main_v90 m' c : Cert.KernelIdeal.S2x640x4096.Idx → EReal)
    = W4 m ρ c (Proc.devRef .tc Cert.KernelIdeal.main_v4) := by
  funext y
  obtain ⟨b, s, k, rfl⟩ : ∃ (b : Fin 2) (s : Fin 640) (k : Fin 4096), y = ix3 b s k := ⟨y 0, y 1, y 2, eq_ix3 y⟩
  refine (Cert.ReferenceIdeal.Val.aY_apply m' c b s k).trans (Eq.trans ?_ (Cert.KernelIdeal.Val.res_v4 m ρ c b s k).symm)
  rw [h0, h1, h2, h3]

end Cert.Tie
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Tie
public import Idealize.ShloMosaic.Adequacy
public import Idealize.ShloMosaic.Init

@[expose] public section

noncomputable section

namespace Cert.Proof

open Idealize.ShloMosaic Idealize.SL.Sem Cert.Kernel

/-- The printed kernel runs, leaves its arguments unchanged and ends with every counter at zero. -/
theorem frame_p : Cert.quiescent_Kernel := fun m ρ _ => Cert.Kernel.Gen.frame m ρ

/-- The kernel read over the extended reals runs, leaves its arguments unchanged and ends with every counter at
zero. -/
theorem frame_pi : Cert.quiescent_KernelIdeal := fun m ρ _ => Cert.KernelIdeal.Gen.frame m ρ

/-- The reference read over the extended reals runs, leaves its arguments unchanged and ends with every counter at
zero (it has none). -/
theorem frame_ri : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run m ρ)

/-- Over the extended reals the kernel and the reference compute the same five results. -/
theorem algebraic : Cert.algebraic_KernelIdeal_ReferenceIdeal := by
  intro m ρ m' ρ' _ hagree
  refine ⟨fun c => Cert.KernelIdeal.Gen.W4 m ρ c (Proc.devRef .tc Cert.KernelIdeal.main_v4),
    fun c => Cert.KernelIdeal.Gen.W4 m ρ c (Proc.devRef .tc Cert.KernelIdeal.main_v5),
    fun c => Cert.KernelIdeal.Gen.W4 m ρ c (Proc.devRef .tc Cert.KernelIdeal.main_v6),
    fun c => Cert.KernelIdeal.Gen.W4 m ρ c (Proc.devRef .tc Cert.KernelIdeal.main_v7),
    fun c => Cert.KernelIdeal.Gen.W4 m ρ c (Proc.devRef .tc Cert.KernelIdeal.main_v8),
    Cert.KernelIdeal.Val.run m ρ,
    (θ_run Cert.ReferenceIdeal.defs _ _).mono (fun _ h c => ?_) (Cert.ReferenceIdeal.Value.run m' ρ')⟩
  obtain ⟨r0, r1, r2, r3, r4, hargs⟩ := h c
  obtain ⟨h0, h1, h2, h3⟩ := hagree c
  exact ⟨r0.trans (Cert.Tie.tie_v4 m ρ m' c h0 h1 h2 h3), r1.trans (Cert.Tie.tie_v5 m ρ m' c h0 h1),
    r2.trans (Cert.Tie.tie_v6 m ρ m' c h0 h1), r3.trans (Cert.Tie.tie_v7 m ρ m' c h0 h1),
    r4.trans (Cert.Tie.tie_v8 m ρ m' c h0 h1), hargs⟩

theorem claim : Cert.Claim := ⟨Cert.Kernel.Gen.facts, Cert.KernelIdeal.Gen.facts, Cert.ReferenceIdeal.Gen.facts,
  frame_p, frame_pi, frame_ri, trivial, algebraic⟩

end Cert.Proof

end
